-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_defined [hPre_well_defined : Cert.Pre_well_defined.Facts] (m : (ℓ : Loc Cert.KernelIdeal.nD Cert.KernelIdeal.τ Cert.KernelIdeal.sig) → Buf (Elt Ideal) ℓ) : Prop :=
  ∀ c : Dev Cert.KernelIdeal.nD,
    (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.1 = (fun _ => 1#1)
    ∧ (Cert.Pre_well_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_defined [hPre_well_defined : Cert.Pre_well_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.1 = (fun _ => 1#1)
    ∧ (Cert.Pre_well_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_well_defined [hKernelIdeal : Cert.KernelIdeal.Facts] [hPre_well_defined : Cert.Pre_well_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_well_defined [hReferenceIdeal : Cert.ReferenceIdeal.Facts] [hPre_well_defined : Cert.Pre_well_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_well_defined [hKernelIdeal : Cert.KernelIdeal.Facts] [hReferenceIdeal : Cert.ReferenceIdeal.Facts] [hPre_well_defined : Cert.Pre_well_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_well_defined : Cert.Pre_well_defined.Facts),
    quiescent_Kernel (hKernel := hKernel)
    ∧ quiescent_KernelIdeal (hKernelIdeal := hKernelIdeal)
    ∧ quiescent_KernelIdeal_pre_well_defined (hKernelIdeal := hKernelIdeal) (hPre_well_defined := hPre_well_defined)
    ∧ quiescent_ReferenceIdeal (hReferenceIdeal := hReferenceIdeal)
    ∧ quiescent_ReferenceIdeal_pre_well_defined (hReferenceIdeal := hReferenceIdeal) (hPre_well_defined := hPre_well_defined)
    ∧ preserves_Kernel_KernelIdeal
    ∧ algebraic_KernelIdeal_ReferenceIdeal_pre_well_defined (hKernelIdeal := hKernelIdeal) (hReferenceIdeal := hReferenceIdeal) (hPre_well_defined := hPre_well_defined)
-- ==== Pre_well_defined.lean ====
abbrev S8x16384x256 : Shape := ⟨3, ![8, 16384, 256]⟩
abbrev S32x256 : Shape := ⟨2, ![32, 256]⟩
abbrev S32 : Shape := ⟨1, ![32]⟩
abbrev S256x256 : Shape := ⟨2, ![256, 256]⟩
abbrev S256 : Shape := ⟨1, ![256]⟩
abbrev S1 : Shape := ⟨1, ![1]⟩
abbrev S_ : Shape := ⟨0, ![]⟩
abbrev S8x256x16384 : Shape := ⟨3, ![8, 256, 16384]⟩
abbrev S8x16384x32 : Shape := ⟨3, ![8, 16384, 32]⟩
abbrev S8x32x16384 : Shape := ⟨3, ![8, 32, 16384]⟩
abbrev S1x32x1 : Shape := ⟨3, ![1, 32, 1]⟩
abbrev S8x16384 : Shape := ⟨2, ![8, 16384]⟩
abbrev S8x1x16384 : Shape := ⟨3, ![8, 1, 16384]⟩
abbrev S8x32 : Shape := ⟨2, ![8, 32]⟩

class Facts : Prop where
  transposes_S8x16384x256_S8x256x16384_0_2_1 : S8x16384x256.Transposes [0, 2, 1] S8x256x16384
  transposes_S8x16384x32_S8x32x16384_0_2_1 : S8x16384x32.Transposes [0, 2, 1] S8x32x16384
  bcast_S32_S1x32x1_1 : S32.BroadcastsInDim S1x32x1 (![1] : Fin 1 → Fin S1x32x1.rank)
  bcast_S1x32x1_S8x32x16384_0_1_2 : S1x32x1.BroadcastsInDim S8x32x16384 (![0, 1, 2] : Fin 3 → Fin S8x32x16384.rank)
  reducesTo_S8x32x16384_S8x16384_d1 : S8x32x16384.ReducesTo [1] S8x16384
  h_S_ : 0 < S_.numel
  bcast_S8x16384_S8x1x16384_0_2 : S8x16384.BroadcastsInDim S8x1x16384 (![0, 2] : Fin 2 → Fin S8x1x16384.rank)
  bcast_S8x1x16384_S8x32x16384_0_1_2 : S8x1x16384.BroadcastsInDim S8x32x16384 (![0, 1, 2] : Fin 3 → Fin S8x32x16384.rank)
  transposes_S8x32x16384_S8x16384x32_0_2_1 : S8x32x16384.Transposes [0, 2, 1] S8x16384x32
  reducesTo_S8x32x16384_S8x32_d2 : S8x32x16384.ReducesTo [2] S8x32
  bcast_S_S8x32 : S_.BroadcastsInDim S8x32 (![] : Fin 0 → Fin S8x32.rank)
  bcast_S_S8x16384x256 : S_.BroadcastsInDim S8x16384x256 (![] : Fin 0 → Fin S8x16384x256.rank)
  bcast_S_S256x256 : S_.BroadcastsInDim S256x256 (![] : Fin 0 → Fin S256x256.rank)
  bcast_S_S256 : S_.BroadcastsInDim S256 (![] : Fin 0 → Fin S256.rank)
  bcast_S_S8x1x16384 : S_.BroadcastsInDim S8x1x16384 (![] : Fin 0 → Fin S8x1x16384.rank)
  bcast_S_S8x16384 : S_.BroadcastsInDim S8x16384 (![] : Fin 0 → Fin S8x16384.rank)
  dot_S8x256x16384_S32x256_S8x16384x32_1_1_02_0_n_n_wf : DotDims.WF S8x256x16384 S32x256 S8x16384x32 [1] [1] [0, 2] [0] [] []
  dot_S8x16384x32_S8x32_S8x16384_2_1_1_n_0_0_wf : DotDims.WF S8x16384x32 S8x32 S8x16384 [2] [1] [1] [] [0] [0]

variable [Facts]

def dot_S8x256x16384_S32x256_S8x16384x32_1_1_02_0_n_n : DotDims S8x256x16384 S32x256 S8x16384x32 where
  lhsContracting := [1]
  rhsContracting := [1]
  lhsNonContracting := [0, 2]
  rhsNonContracting := [0]
  lhsBatch := []
  rhsBatch := []
  wf := dot_S8x256x16384_S32x256_S8x16384x32_1_1_02_0_n_n_wf
def dot_S8x16384x32_S8x32_S8x16384_2_1_1_n_0_0 : DotDims S8x16384x32 S8x32 S8x16384 where
  lhsContracting := [2]
  rhsContracting := [1]
  lhsNonContracting := [1]
  rhsNonContracting := []
  lhsBatch := [0]
  rhsBatch := [0]
  wf := dot_S8x16384x32_S8x32_S8x16384_2_1_1_n_0_0_wf
def fn_norm {F : FTy → Type} [FloatOps F] (arg0 : FVec F S8x32x16384 .f32) : FVec F S8x1x16384 .f32 :=
  let v0 : FVec F S8x32x16384 .f32 := mulf arg0 arg0
  let cst : FVec F S_ .f32 := constant S_ .f32 0x00000000#32
  let v1 : FVec F S8x16384 .f32 := (fun x v => Host.reduceAdd x v reducesTo_S8x32x16384_S8x16384_d1 h_S_) v0 cst
  let v2 : FVec F S8x1x16384 .f32 := broadcastInDim S8x1x16384 ![0, 2] bcast_S8x16384_S8x1x16384_0_2 v1
  let v3 : FVec F S8x1x16384 .f32 := Host.sqrt v2
  v3

def fn_part4 {F : FTy → Type} [FloatOps F] (main_v29 : FVec F S8x16384x32 .f32) (main_v35 : FVec F S8x32 .f32) (main_v41 : FVec F S8x32 .f32) (main_v44 : IVec S8x16384x256 1) (main_v47 : IVec S8x16384x256 1) (main_v50 : IVec S256x256 1) (main_v53 : IVec S256 1) (main_v56 : IVec S256x256 1) (main_v59 : IVec S256 1) (main_v62 : IVec S8x1x16384 1) (main_v65 : IVec S8x1x16384 1) (main_v68 : IVec S8x1x16384 1) (main_v71 : IVec S8x1x16384 1) (main_v76 : IVec S8x16384 1) (main_v77 : FVec F S8x16384 .f32) (main_v78 : FVec F S8x16384 .f32) : IVec S8x16384x256 1 × IVec S8x16384x256 1 × IVec S256x256 1 × IVec S256 1 × IVec S256x256 1 × IVec S256 1 × IVec S8x1x16384 1 × IVec S8x1x16384 1 × IVec S8x1x16384 1 × IVec S8x1x16384 1 × IVec S8x16384 1 × IVec S8x16384 1 × IVec S8x16384 1 × IVec S8x16384 1 :=
  let main_v79 : FVec F S8x16384 .f32 := addf main_v78 main_v77
  let main_cst_16 : FVec F S_ .f32 := constant S_ .f32 0x00000000#32
  let main_v80 : FVec F S8x16384 .f32 := broadcastInDim S8x16384 ![] bcast_S_S8x16384 main_cst_16
  let main_v81 : IVec S8x16384 1 := cmpf .une main_v79 main_v80
  let main_v82 : FVec F S8x16384 .f32 := (fun l r => Host.dotGeneral dot_S8x16384x32_S8x32_S8x16384_2_1_1_n_0_0 none l r) main_v29 main_v41
  let main_cst_17 : FVec F S_ .f32 := constant S_ .f32 0x46800000#32
  let main_v83 : FVec F S8x16384 .f32 := broadcastInDim S8x16384 ![] bcast_S_S8x16384 main_cst_17
  let main_v84 : FVec F S8x16384 .f32 := addf main_v83 main_v82
  let main_cst_18 : FVec F S_ .f32 := constant S_ .f32 0x00000000#32
  let main_v85 : FVec F S8x16384 .f32 := broadcastInDim S8x16384 ![] bcast_S_S8x16384 main_cst_18
  let main_v86 : IVec S8x16384 1 := cmpf .une main_v84 main_v85
  let main_v87 : FVec F S8x16384 .f32 := (fun l r => Host.dotGeneral dot_S8x16384x32_S8x32_S8x16384_2_1_1_n_0_0 none l r) main_v29 main_v35
  let main_cst_19 : FVec F S_ .f32 := constant S_ .f32 0x46800000#32
  let main_v88 : FVec F S8x16384 .f32 := broadcastInDim S8x16384 ![] bcast_S_S8x16384 main_cst_19
  let main_v89 : FVec F S8x16384 .f32 := addf main_v88 main_v87
  let main_cst_20 : FVec F S_ .f32 := constant S_ .f32 0x00000000#32
  let main_v90 : FVec F S8x16384 .f32 := broadcastInDim S8x16384 ![] bcast_S_S8x16384 main_cst_20
  let main_v91 : IVec S8x16384 1 := cmpf .une main_v89 main_v90
  (main_v44, main_v47, main_v50, main_v53, main_v56, main_v59, main_v62, main_v65, main_v68, main_v71, main_v76, main_v81, main_v86, main_v91)

def fn_part3 {F : FTy → Type} [FloatOps F] (main_v11 : FVec F S8x32x16384 .f32) (main_v16 : FVec F S8x32x16384 .f32) (main_v21 : FVec F S8x32x16384 .f32) (main_v25 : FVec F S8x16384x32 .f32) (main_v29 : FVec F S8x16384x32 .f32) (main_v35 : FVec F S8x32 .f32) (main_v41 : FVec F S8x32 .f32) (main_v44 : IVec S8x16384x256 1) (main_v47 : IVec S8x16384x256 1) (main_v50 : IVec S256x256 1) (main_v53 : IVec S256 1) (main_v56 : IVec S256x256 1) (main_v59 : IVec S256 1) (main_v60 : FVec F S8x1x16384 .f32) (main_cst_9 : FVec F S_ .f32) : IVec S8x16384x256 1 × IVec S8x16384x256 1 × IVec S256x256 1 × IVec S256 1 × IVec S256x256 1 × IVec S256 1 × IVec S8x1x16384 1 × IVec S8x1x16384 1 × IVec S8x1x16384 1 × IVec S8x1x16384 1 × IVec S8x16384 1 × IVec S8x16384 1 × IVec S8x16384 1 × IVec S8x16384 1 :=
  let main_v61 : FVec F S8x1x16384 .f32 := broadcastInDim S8x1x16384 ![] bcast_S_S8x1x16384 main_cst_9
  let main_v62 : IVec S8x1x16384 1 := cmpf .une main_v60 main_v61
  let main_v63 : FVec F S8x1x16384 .f32 := fn_norm (F := F) main_v11
  let main_cst_10 : FVec F S_ .f32 := constant S_ .f32 0x00000000#32
  let main_v64 : FVec F S8x1x16384 .f32 := broadcastInDim S8x1x16384 ![] bcast_S_S8x1x16384 main_cst_10
  let main_v65 : IVec S8x1x16384 1 := cmpf .une main_v63 main_v64
  let main_v66 : FVec F S8x1x16384 .f32 := fn_norm (F := F) main_v16
  let main_cst_11 : FVec F S_ .f32 := constant S_ .f32 0x00000000#32
  let main_v67 : FVec F S8x1x16384 .f32 := broadcastInDim S8x1x16384 ![] bcast_S_S8x1x16384 main_cst_11
  let main_v68 : IVec S8x1x16384 1 := cmpf .une main_v66 main_v67
  let main_v69 : FVec F S8x1x16384 .f32 := fn_norm (F := F) main_v21
  let main_cst_12 : FVec F S_ .f32 := constant S_ .f32 0x00000000#32
  let main_v70 : FVec F S8x1x16384 .f32 := broadcastInDim S8x1x16384 ![] bcast_S_S8x1x16384 main_cst_12
  let main_v71 : IVec S8x1x16384 1 := cmpf .une main_v69 main_v70
  let main_v72 : FVec F S8x16384 .f32 := (fun l r => Host.dotGeneral dot_S8x16384x32_S8x32_S8x16384_2_1_1_n_0_0 none l r) main_v25 main_v35
  let main_cst_13 : FVec F S_ .f32 := constant S_ .f32 0x46800000#32
  let main_v73 : FVec F S8x16384 .f32 := broadcastInDim S8x16384 ![] bcast_S_S8x16384 main_cst_13
  let main_v74 : FVec F S8x16384 .f32 := addf main_v73 main_v72
  let main_cst_14 : FVec F S_ .f32 := constant S_ .f32 0x00000000#32
  let main_v75 : FVec F S8x16384 .f32 := broadcastInDim S8x16384 ![] bcast_S_S8x16384 main_cst_14
  let main_v76 : IVec S8x16384 1 := cmpf .une main_v74 main_v75
  let main_v77 : FVec F S8x16384 .f32 := (fun l r => Host.dotGeneral dot_S8x16384x32_S8x32_S8x16384_2_1_1_n_0_0 none l r) main_v25 main_v41
  let main_cst_15 : FVec F S_ .f32 := constant S_ .f32 0x46800000#32
  let main_v78 : FVec F S8x16384 .f32 := broadcastInDim S8x16384 ![] bcast_S_S8x16384 main_cst_15
  fn_part4 (F := F) main_v29 main_v35 main_v41 main_v44 main_v47 main_v50 main_v53 main_v56 main_v59 main_v62 main_v65 main_v68 main_v71 main_v76 main_v77 main_v78

def fn_part2 {F : FTy → Type} [FloatOps F] (main_arg1 : FVec F S8x16384x256 .f32) (main_arg6 : FVec F S256x256 .f32) (main_arg7 : FVec F S256 .f32) (main_arg12 : FVec F S256x256 .f32) (main_arg13 : FVec F S256 .f32) (main_v6 : FVec F S8x32x16384 .f32) (main_v11 : FVec F S8x32x16384 .f32) (main_v16 : FVec F S8x32x16384 .f32) (main_v21 : FVec F S8x32x16384 .f32) (main_v25 : FVec F S8x16384x32 .f32) (main_v29 : FVec F S8x16384x32 .f32) (main_v35 : FVec F S8x32 .f32) (main_v41 : FVec F S8x32 .f32) (main_v42 : FVec F S8x16384x256 .f32) (main_cst_3 : FVec F S_ .f32) : IVec S8x16384x256 1 × IVec S8x16384x256 1 × IVec S256x256 1 × IVec S256 1 × IVec S256x256 1 × IVec S256 1 × IVec S8x1x16384 1 × IVec S8x1x16384 1 × IVec S8x1x16384 1 × IVec S8x1x16384 1 × IVec S8x16384 1 × IVec S8x16384 1 × IVec S8x16384 1 × IVec S8x16384 1 :=
  let main_v43 : FVec F S8x16384x256 .f32 := broadcastInDim S8x16384x256 ![] bcast_S_S8x16384x256 main_cst_3
  let main_v44 : IVec S8x16384x256 1 := cmpf .olt main_v42 main_v43
  let main_v45 : FVec F S8x16384x256 .f32 := Host.absf main_arg1
  let main_cst_4 : FVec F S_ .f32 := constant S_ .f32 0x7F800000#32
  let main_v46 : FVec F S8x16384x256 .f32 := broadcastInDim S8x16384x256 ![] bcast_S_S8x16384x256 main_cst_4
  let main_v47 : IVec S8x16384x256 1 := cmpf .olt main_v45 main_v46
  let main_v48 : FVec F S256x256 .f32 := Host.absf main_arg6
  let main_cst_5 : FVec F S_ .f32 := constant S_ .f32 0x7F800000#32
  let main_v49 : FVec F S256x256 .f32 := broadcastInDim S256x256 ![] bcast_S_S256x256 main_cst_5
  let main_v50 : IVec S256x256 1 := cmpf .olt main_v48 main_v49
  let main_v51 : FVec F S256 .f32 := Host.absf main_arg7
  let main_cst_6 : FVec F S_ .f32 := constant S_ .f32 0x7F800000#32
  let main_v52 : FVec F S256 .f32 := broadcastInDim S256 ![] bcast_S_S256 main_cst_6
  let main_v53 : IVec S256 1 := cmpf .olt main_v51 main_v52
  let main_v54 : FVec F S256x256 .f32 := Host.absf main_arg12
  let main_cst_7 : FVec F S_ .f32 := constant S_ .f32 0x7F800000#32
  let main_v55 : FVec F S256x256 .f32 := broadcastInDim S256x256 ![] bcast_S_S256x256 main_cst_7
  let main_v56 : IVec S256x256 1 := cmpf .olt main_v54 main_v55
  let main_v57 : FVec F S256 .f32 := Host.absf main_arg13
  let main_cst_8 : FVec F S_ .f32 := constant S_ .f32 0x7F800000#32
  let main_v58 : FVec F S256 .f32 := broadcastInDim S256 ![] bcast_S_S256 main_cst_8
  let main_v59 : IVec S256 1 := cmpf .olt main_v57 main_v58
  let main_v60 : FVec F S8x1x16384 .f32 := fn_norm (F := F) main_v6
  let main_cst_9 : FVec F S_ .f32 := constant S_ .f32 0x00000000#32
  fn_part3 (F := F) main_v11 main_v16 main_v21 main_v25 main_v29 main_v35 main_v41 main_v44 main_v47 main_v50 main_v53 main_v56 main_v59 main_v60 main_cst_9

def fn_part1 {F : FTy → Type} [FloatOps F] (main_arg0 : FVec F S8x16384x256 .f32) (main_arg1 : FVec F S8x16384x256 .f32) (main_arg6 : FVec F S256x256 .f32) (main_arg7 : FVec F S256 .f32) (main_arg12 : FVec F S256x256 .f32) (main_arg13 : FVec F S256 .f32) (main_v6 : FVec F S8x32x16384 .f32) (main_v11 : FVec F S8x32x16384 .f32) (main_v16 : FVec F S8x32x16384 .f32) (main_v21 : FVec F S8x32x16384 .f32) (main_v23 : FVec F S8x32x16384 .f32) : IVec S8x16384x256 1 × IVec S8x16384x256 1 × IVec S256x256 1 × IVec S256 1 × IVec S256x256 1 × IVec S256 1 × IVec S8x1x16384 1 × IVec S8x1x16384 1 × IVec S8x1x16384 1 × IVec S8x1x16384 1 × IVec S8x16384 1 × IVec S8x16384 1 × IVec S8x16384 1 × IVec S8x16384 1 :=
  let main_v24 : FVec F S8x32x16384 .f32 := Host.divf main_v6 main_v23
  let main_v25 : FVec F S8x16384x32 .f32 := (transpose S8x16384x32 [0, 2, 1] · transposes_S8x32x16384_S8x16384x32_0_2_1) main_v24
  let main_v26 : FVec F S8x1x16384 .f32 := fn_norm (F := F) main_v16
  let main_v27 : FVec F S8x32x16384 .f32 := broadcastInDim S8x32x16384 ![0, 1, 2] bcast_S8x1x16384_S8x32x16384_0_1_2 main_v26
  let main_v28 : FVec F S8x32x16384 .f32 := Host.divf main_v16 main_v27
  let main_v29 : FVec F S8x16384x32 .f32 := (transpose S8x16384x32 [0, 2, 1] · transposes_S8x32x16384_S8x16384x32_0_2_1) main_v28
  let main_v30 : FVec F S8x1x16384 .f32 := fn_norm (F := F) main_v11
  let main_v31 : FVec F S8x32x16384 .f32 := broadcastInDim S8x32x16384 ![0, 1, 2] bcast_S8x1x16384_S8x32x16384_0_1_2 main_v30
  let main_v32 : FVec F S8x32x16384 .f32 := Host.divf main_v11 main_v31
  let main_cst : FVec F S_ .f32 := constant S_ .f32 0x00000000#32
  let main_v33 : FVec F S8x32 .f32 := (fun x v => Host.reduceAdd x v reducesTo_S8x32x16384_S8x32_d2 h_S_) main_v32 main_cst
  let main_cst_0 : FVec F S_ .f32 := constant S_ .f32 0x358637BD#32
  let main_v34 : FVec F S8x32 .f32 := broadcastInDim S8x32 ![] bcast_S_S8x32 main_cst_0
  let main_v35 : FVec F S8x32 .f32 := addf main_v33 main_v34
  let main_v36 : FVec F S8x1x16384 .f32 := fn_norm (F := F) main_v21
  let main_v37 : FVec F S8x32x16384 .f32 := broadcastInDim S8x32x16384 ![0, 1, 2] bcast_S8x1x16384_S8x32x16384_0_1_2 main_v36
  let main_v38 : FVec F S8x32x16384 .f32 := Host.divf main_v21 main_v37
  let main_cst_1 : FVec F S_ .f32 := constant S_ .f32 0x00000000#32
  let main_v39 : FVec F S8x32 .f32 := (fun x v => Host.reduceAdd x v reducesTo_S8x32x16384_S8x32_d2 h_S_) main_v38 main_cst_1
  let main_cst_2 : FVec F S_ .f32 := constant S_ .f32 0x358637BD#32
  let main_v40 : FVec F S8x32 .f32 := broadcastInDim S8x32 ![] bcast_S_S8x32 main_cst_2
  let main_v41 : FVec F S8x32 .f32 := addf main_v39 main_v40
  let main_v42 : FVec F S8x16384x256 .f32 := Host.absf main_arg0
  let main_cst_3 : FVec F S_ .f32 := constant S_ .f32 0x7F800000#32
  fn_part2 (F := F) main_arg1 main_arg6 main_arg7 main_arg12 main_arg13 main_v6 main_v11 main_v16 main_v21 main_v25 main_v29 main_v35 main_v41 main_v42 main_cst_3

def fn {F : FTy → Type} [FloatOps F] (main_arg0 : FVec F S8x16384x256 .f32) (main_arg1 : FVec F S8x16384x256 .f32) (main_arg2 : FVec F S32x256 .f32) (main_arg3 : FVec F S32 .f32) (main_arg4 : FVec F S32x256 .f32) (main_arg5 : FVec F S32 .f32) (main_arg6 : FVec F S256x256 .f32) (main_arg7 : FVec F S256 .f32) (main_arg8 : FVec F S32x256 .f32) (main_arg9 : FVec F S32 .f32) (main_arg10 : FVec F S32x256 .f32) (main_arg11 : FVec F S32 .f32) (main_arg12 : FVec F S256x256 .f32) (main_arg13 : FVec F S256 .f32) (main_arg14 : FVec F S1 .f32) (main_arg15 : FVec F S1 .f32) (main_arg16 : FVec F S1 .f32) (main_arg17 : FVec F S1 .f32) (main_arg18 : FVec F S_ .f32) (main_arg19 : FVec F S_ .f32) (main_arg20 : FVec F S_ .f32) (main_arg21 : FVec F S_ .f32) : IVec S8x16384x256 1 × IVec S8x16384x256 1 × IVec S256x256 1 × IVec S256 1 × IVec S256x256 1 × IVec S256 1 × IVec S8x1x16384 1 × IVec S8x1x16384 1 × IVec S8x1x16384 1 × IVec S8x1x16384 1 × IVec S8x16384 1 × IVec S8x16384 1 × IVec S8x16384 1 × IVec S8x16384 1 :=
  let main_v0 : FVec F S8x256x16384 .f32 := (transpose S8x256x16384 [0, 2, 1] · transposes_S8x16384x256_S8x256x16384_0_2_1) main_arg0
  let main_v1 : FVec F S8x256x16384 .f32 := (transpose S8x256x16384 [0, 2, 1] · transposes_S8x16384x256_S8x256x16384_0_2_1) main_arg1
  let main_v2 : FVec F S8x16384x32 .f32 := (fun l r => Host.dotGeneral dot_S8x256x16384_S32x256_S8x16384x32_1_1_02_0_n_n none l r) main_v0 main_arg2
  let main_v3 : FVec F S8x32x16384 .f32 := (transpose S8x32x16384 [0, 2, 1] · transposes_S8x16384x32_S8x32x16384_0_2_1) main_v2
  let main_v4 : FVec F S1x32x1 .f32 := broadcastInDim S1x32x1 ![1] bcast_S32_S1x32x1_1 main_arg3
  let main_v5 : FVec F S8x32x16384 .f32 := broadcastInDim S8x32x16384 ![0, 1, 2] bcast_S1x32x1_S8x32x16384_0_1_2 main_v4
  let main_v6 : FVec F S8x32x16384 .f32 := addf main_v3 main_v5
  let main_v7 : FVec F S8x16384x32 .f32 := (fun l r => Host.dotGeneral dot_S8x256x16384_S32x256_S8x16384x32_1_1_02_0_n_n none l r) main_v0 main_arg4
  let main_v8 : FVec F S8x32x16384 .f32 := (transpose S8x32x16384 [0, 2, 1] · transposes_S8x16384x32_S8x32x16384_0_2_1) main_v7
  let main_v9 : FVec F S1x32x1 .f32 := broadcastInDim S1x32x1 ![1] bcast_S32_S1x32x1_1 main_arg5
  let main_v10 : FVec F S8x32x16384 .f32 := broadcastInDim S8x32x16384 ![0, 1, 2] bcast_S1x32x1_S8x32x16384_0_1_2 main_v9
  let main_v11 : FVec F S8x32x16384 .f32 := addf main_v8 main_v10
  let main_v12 : FVec F S8x16384x32 .f32 := (fun l r => Host.dotGeneral dot_S8x256x16384_S32x256_S8x16384x32_1_1_02_0_n_n none l r) main_v1 main_arg8
  let main_v13 : FVec F S8x32x16384 .f32 := (transpose S8x32x16384 [0, 2, 1] · transposes_S8x16384x32_S8x32x16384_0_2_1) main_v12
  let main_v14 : FVec F S1x32x1 .f32 := broadcastInDim S1x32x1 ![1] bcast_S32_S1x32x1_1 main_arg9
  let main_v15 : FVec F S8x32x16384 .f32 := broadcastInDim S8x32x16384 ![0, 1, 2] bcast_S1x32x1_S8x32x16384_0_1_2 main_v14
  let main_v16 : FVec F S8x32x16384 .f32 := addf main_v13 main_v15
  let main_v17 : FVec F S8x16384x32 .f32 := (fun l r => Host.dotGeneral dot_S8x256x16384_S32x256_S8x16384x32_1_1_02_0_n_n none l r) main_v1 main_arg10
  let main_v18 : FVec F S8x32x16384 .f32 := (transpose S8x32x16384 [0, 2, 1] · transposes_S8x16384x32_S8x32x16384_0_2_1) main_v17
  let main_v19 : FVec F S1x32x1 .f32 := broadcastInDim S1x32x1 ![1] bcast_S32_S1x32x1_1 main_arg11
  let main_v20 : FVec F S8x32x16384 .f32 := broadcastInDim S8x32x16384 ![0, 1, 2] bcast_S1x32x1_S8x32x16384_0_1_2 main_v19
  let main_v21 : FVec F S8x32x16384 .f32 := addf main_v18 main_v20
  let main_v22 : FVec F S8x1x16384 .f32 := fn_norm (F := F) main_v6
  let main_v23 : FVec F S8x32x16384 .f32 := broadcastInDim S8x32x16384 ![0, 1, 2] bcast_S8x1x16384_S8x32x16384_0_1_2 main_v22
  fn_part1 (F := F) main_arg0 main_arg1 main_arg6 main_arg7 main_arg12 main_arg13 main_v6 main_v11 main_v16 main_v21 main_v23
-- ==== Kernel.lean ====
abbrev S8x16384x256 : Shape := ⟨3, ![8, 16384, 256]⟩
abbrev S32x256 : Shape := ⟨2, ![32, 256]⟩
abbrev S32 : Shape := ⟨1, ![32]⟩
abbrev S256x256 : Shape := ⟨2, ![256, 256]⟩
abbrev S256 : Shape := ⟨1, ![256]⟩
abbrev S1 : Shape := ⟨1, ![1]⟩
abbrev S_ : Shape := ⟨0, ![]⟩
abbrev S64x256 : Shape := ⟨2, ![64, 256]⟩
abbrev S64 : Shape := ⟨1, ![64]⟩
abbrev S1x64 : Shape := ⟨2, ![1, 64]⟩
abbrev S4 : Shape := ⟨1, ![4]⟩
abbrev S1x256 : Shape := ⟨2, ![1, 256]⟩
abbrev S1x2048x256 : Shape := ⟨3, ![1, 2048, 256]⟩
abbrev S2x16384x32 : Shape := ⟨3, ![2, 16384, 32]⟩
abbrev S2x32x256 : Shape := ⟨3, ![2, 32, 256]⟩
abbrev S2x1x32 : Shape := ⟨3, ![2, 1, 32]⟩
abbrev S2x1x256 : Shape := ⟨3, ![2, 1, 256]⟩
abbrev S32x512 : Shape := ⟨2, ![32, 512]⟩
abbrev S32x2 : Shape := ⟨2, ![32, 2]⟩
abbrev S1x32x256 : Shape := ⟨3, ![1, 32, 256]⟩
abbrev S1x32 : Shape := ⟨2, ![1, 32]⟩
abbrev S1x1x32 : Shape := ⟨3, ![1, 1, 32]⟩
abbrev S1x1x256 : Shape := ⟨3, ![1, 1, 256]⟩
abbrev S2048x256 : Shape := ⟨2, ![2048, 256]⟩
abbrev S2048x32 : Shape := ⟨2, ![2048, 32]⟩
abbrev S2048 : Shape := ⟨1, ![2048]⟩
abbrev S2048x1 : Shape := ⟨2, ![2048, 1]⟩
abbrev S1x2048x32 : Shape := ⟨3, ![1, 2048, 32]⟩
abbrev S32x1 : Shape := ⟨2, ![32, 1]⟩
abbrev S2048x2 : Shape := ⟨2, ![2048, 2]⟩
abbrev S2048x512 : Shape := ⟨2, ![2048, 512]⟩

abbrev nBuf : Space → Nat
  | .hbm => 45
  | .vmem => 29
  | .smem => 1
  | _ => 0

abbrev bufTy : (tb : Table) → Fin (tcTables nBuf tb) → BufTy
  | .hbm, ⟨0, _⟩ => ⟨S8x16384x256, .f32⟩
  | .hbm, ⟨1, _⟩ => ⟨S8x16384x256, .f32⟩
  | .hbm, ⟨2, _⟩ => ⟨S32x256, .f32⟩
  | .hbm, ⟨3, _⟩ => ⟨S32, .f32⟩
  | .hbm, ⟨4, _⟩ => ⟨S32x256, .f32⟩
  | .hbm, ⟨5, _⟩ => ⟨S32, .f32⟩
  | .hbm, ⟨6, _⟩ => ⟨S256x256, .f32⟩
  | .hbm, ⟨7, _⟩ => ⟨S256, .f32⟩
  | .hbm, ⟨8, _⟩ => ⟨S32x256, .f32⟩
  | .hbm, ⟨9, _⟩ => ⟨S32, .f32⟩
  | .hbm, ⟨10, _⟩ => ⟨S32x256, .f32⟩
  | .hbm, ⟨11, _⟩ => ⟨S32, .f32⟩
  | .hbm, ⟨12, _⟩ => ⟨S256x256, .f32⟩
  | .hbm, ⟨13, _⟩ => ⟨S256, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64x256, .f32⟩
  | .hbm, ⟨23, _⟩ => ⟨S64x256, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S4, .f32⟩
  | .hbm, ⟨41, _⟩ => ⟨S1x256, .f32⟩
  | .hbm, ⟨42, _⟩ => ⟨S1x256, .f32⟩
  | .hbm, ⟨43, _⟩ => ⟨S8x16384x256, .f32⟩
  | .hbm, ⟨44, _⟩ => ⟨S8x16384x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S64x256, .f32⟩
  | .local _ .vmem, ⟨5, _⟩ => ⟨S1x64, .f32⟩
  | .local _ .vmem, ⟨6, _⟩ => ⟨S64x256, .f32⟩
  | .local _ .vmem, ⟨7, _⟩ => ⟨S1x64, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S2x16384x32, .f32⟩
  | .local _ .vmem, ⟨17, _⟩ => ⟨S2x16384x32, .f32⟩
  | .local _ .vmem, ⟨18, _⟩ => ⟨S2x32x256, .f32⟩
  | .local _ .vmem, ⟨19, _⟩ => ⟨S2x32x256, .f32⟩
  | .local _ .vmem, ⟨20, _⟩ => ⟨S2x1x32, .f32⟩
  | .local _ .vmem, ⟨21, _⟩ => ⟨S2x1x32, .f32⟩
  | .local _ .vmem, ⟨22, _⟩ => ⟨S2x1x256, .f32⟩
  | .local _ .vmem, ⟨23, _⟩ => ⟨S2x1x256, .f32⟩
  | .local _ .vmem, ⟨24, _⟩ => ⟨S32x512, .f32⟩
  | .local _ .vmem, ⟨25, _⟩ => ⟨S32x512, .f32⟩
  | .local _ .vmem, ⟨26, _⟩ => ⟨S1x256, .f32⟩
  | .local _ .vmem, ⟨27, _⟩ => ⟨S1x256, .f32⟩
  | .local _ .vmem, ⟨28, _⟩ => ⟨S32x2, .f32⟩
  | .local _ .smem, ⟨0, _⟩ => ⟨S4, .f32⟩
  | _, _ => ⟨S8x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_stg10_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg0 : BitVec 32 := BitVec.ofNat 32 (i 0).val
  let c8_i32 : BitVec 32 := 8#32
  let v2 : BitVec 1 := Scalar.cmpi .slt arg0 c8_i32
  let arg1 : BitVec 32 := BitVec.ofNat 32 (i 1).val
  let c0_i32 : BitVec 32 := 0#32
  let v3 : BitVec 1 := Scalar.cmpi .eq arg1 c0_i32
  let v4 : BitVec 1 := Scalar.andi v2 v3
  let v5 : BitVec 32 := Scalar.extui v4
  let c0_i32_0 : BitVec 32 := 0#32
  let v6 : BitVec 1 := Scalar.cmpi .ne v5 c0_i32_0
  v6

def k0_off1 (i : grid0.Coords) : Fin 3 → Nat :=
  let arg0 : BitVec 32 := BitVec.ofNat 32 (i 0).val
  let c2_i32 : BitVec 32 := 2#32
  let v0 : BitVec 32 := Scalar.remsi arg0 c2_i32
  let v19 : Index := Scalar.indexCast v0
  let c0 : Index := 0#32
  let c0_10 : Index := 0#32
  ![v19.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v29 : Index := Scalar.indexCast v0
  let c0_15 : Index := 0#32
  let c0_16 : Index := 0#32
  ![v29.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v39 : Index := Scalar.indexCast v0
  let c0_21 : Index := 0#32
  let c0_22 : Index := 0#32
  ![v39.toNat, 0, 0]
def k0_cond2 (i : grid0.Coords) : BitVec 1 :=
  let arg0 : BitVec 32 := BitVec.ofNat 32 (i 0).val
  let c8_i32_1 : BitVec 32 := 8#32
  let v7 : BitVec 1 := Scalar.cmpi .slt arg0 c8_i32_1
  let v8 : BitVec 32 := Scalar.extui v7
  let c0_i32_2 : BitVec 32 := 0#32
  let v9 : BitVec 1 := Scalar.cmpi .ne v8 c0_i32_2
  v9

def k0_off4 (i : grid0.Coords) : Fin 3 → Nat :=
  let arg0 : BitVec 32 := BitVec.ofNat 32 (i 0).val
  let c2_i32 : BitVec 32 := 2#32
  let v0 : BitVec 32 := Scalar.remsi arg0 c2_i32
  let v47 : Index := Scalar.indexCast v0
  let arg1 : BitVec 32 := BitVec.ofNat 32 (i 1).val
  let c2048_i32 : BitVec 32 := 2048#32
  let v18 : BitVec 32 := Scalar.muli arg1 c2048_i32
  let v48 : Index := Scalar.indexCast v18
  let c0_22 : Index := 0#32
  ![v47.toNat, v48.toNat, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v52 : Index := Scalar.indexCast v0
  let c0_23 : Index := 0#32
  let c0_24 : Index := 0#32
  ![v52.toNat, 0, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v61 : Index := Scalar.indexCast v0
  let c0_28 : Index := 0#32
  let c0_29 : Index := 0#32
  ![v61.toNat, 0, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v71 : Index := Scalar.indexCast v0
  let c0_33 : Index := 0#32
  let c0_34 : Index := 0#32
  ![v71.toNat, 0, 0]
def k0_cond3 (i : grid0.Coords) : BitVec 1 :=
  let arg0 : BitVec 32 := BitVec.ofNat 32 (i 0).val
  let c0_i32_3 : BitVec 32 := 0#32
  let v10 : BitVec 1 := Scalar.cmpi .sgt arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

def k0_off8 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v18 : Index := Scalar.indexCast v1
  let c0 : Index := 0#32
  let c0_9 : Index := 0#32
  ![v18.toNat, 0, 0]
def k0_off9 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v26 : Index := Scalar.indexCast v1
  let c0_12 : Index := 0#32
  let c0_13 : Index := 0#32
  ![v26.toNat, 0, 0]
def k0_off10 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v48 : Index := Scalar.indexCast v1
  let c0_26 : Index := 0#32
  let c0_27 : Index := 0#32
  ![v48.toNat, 0, 0]
def k0_cond4 (i : grid0.Coords) : BitVec 1 :=
  let arg0 : BitVec 32 := BitVec.ofNat 32 (i 0).val
  let c0_i32_6 : BitVec 32 := 0#32
  let v15 : BitVec 1 := Scalar.cmpi .sgt arg0 c0_i32_6
  let v16 : BitVec 32 := Scalar.extui v15
  let c0_i32_8 : BitVec 32 := 0#32
  let v17 : BitVec 1 := Scalar.cmpi .ne v16 c0_i32_8
  v17

def k0_off11 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v19 : Index := Scalar.indexCast v1
  let arg1 : BitVec 32 := BitVec.ofNat 32 (i 1).val
  let c2048_i32 : BitVec 32 := 2048#32
  let v18 : BitVec 32 := Scalar.muli arg1 c2048_i32
  let v20 : Index := Scalar.indexCast v18
  let c0 : Index := 0#32
  ![v19.toNat, v20.toNat, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c7_i32 : BitVec 32 := 7#32
  let v1 : BitVec 32 := Scalar.select v0 arg0 c7_i32
  let c8_i32_0 : BitVec 32 := 8#32
  let v2 : BitVec 1 := Scalar.cmpi .slt arg0 c8_i32_0
  let c7_i32_1 : BitVec 32 := 7#32
  let v3 : BitVec 32 := Scalar.select v2 arg1 c7_i32_1
  let c0_i32 : BitVec 32 := 0#32
  let c0_i32_2 : BitVec 32 := 0#32
  ![v1.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c7_i32 : BitVec 32 := 7#32
  let v1 : BitVec 32 := Scalar.select v0 arg0 c7_i32
  let c8_i32_0 : BitVec 32 := 8#32
  let v2 : BitVec 1 := Scalar.cmpi .slt arg0 c8_i32_0
  let c7_i32_1 : BitVec 32 := 7#32
  let v3 : BitVec 32 := Scalar.select v2 arg1 c7_i32_1
  let c0_i32 : BitVec 32 := 0#32
  let c0_i32_2 : BitVec 32 := 0#32
  ![v1.toNat, v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, v3.toNat, c0_i32_2.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, v3.toNat, c0_i32_2.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .smem S4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8x16384x256 : Shape := ⟨3, ![8, 16384, 256]⟩
abbrev S32x256 : Shape := ⟨2, ![32, 256]⟩
abbrev S32 : Shape := ⟨1, ![32]⟩
abbrev S256x256 : Shape := ⟨2, ![256, 256]⟩
abbrev S256 : Shape := ⟨1, ![256]⟩
abbrev S1 : Shape := ⟨1, ![1]⟩
abbrev S_ : Shape := ⟨0, ![]⟩
abbrev S8x256x16384 : Shape := ⟨3, ![8, 256, 16384]⟩
abbrev S8x16384x32 : Shape := ⟨3, ![8, 16384, 32]⟩
abbrev S8x32x16384 : Shape := ⟨3, ![8, 32, 16384]⟩
abbrev S1x32x1 : Shape := ⟨3, ![1, 32, 1]⟩
abbrev S8x16384 : Shape := ⟨2, ![8, 16384]⟩
abbrev S8x1x16384 : Shape := ⟨3, ![8, 1, 16384]⟩
abbrev S1x256x1 : Shape := ⟨3, ![1, 256, 1]⟩
abbrev S8x32 : Shape := ⟨2, ![8, 32]⟩
abbrev S8x256 : Shape := ⟨2, ![8, 256]⟩
abbrev S8x32x256 : Shape := ⟨3, ![8, 32, 256]⟩
abbrev S8x256x1 : Shape := ⟨3, ![8, 256, 1]⟩
abbrev S1x1x1 : Shape := ⟨3, ![1, 1, 1]⟩

abbrev nBuf : Space → Nat
  | .hbm => 180
  | .vmem => 0
  | .smem => 0
  | _ => 0

abbrev hbmTy0_0 (i : Nat) : BufTy := match i % 128 with
  | 0 => ⟨S8x16384x256, .f32⟩
  | 1 => ⟨S8x16384x256, .f32⟩
  | 2 => ⟨S32x256, .f32⟩
  | 3 => ⟨S32, .f32⟩
  | 4 => ⟨S32x256, .f32⟩
  | 5 => ⟨S32, .f32⟩
  | 6 => ⟨S256x256, .f32⟩
  | 7 => ⟨S256, .f32⟩
  | 8 => ⟨S32x256, .f32⟩
  | 9 => ⟨S32, .f32⟩
  | 10 => ⟨S32x256, .f32⟩
  | 11 => ⟨S32, .f32⟩
  | 12 => ⟨S256x256, .f32⟩
  | 13 => ⟨S256, .f32⟩
  | 14 => ⟨S1, .f32⟩
  | 15 => ⟨S1, .f32⟩
  | 16 => ⟨S1, .f32⟩
  | 17 => ⟨S1, .f32⟩
  | 18 => ⟨S_, .f32⟩
  | 19 => ⟨S_, .f32⟩
  | 20 => ⟨S_, .f32⟩
  | 21 => ⟨S_, .f32⟩
  | 22 => ⟨S8x256x16384, .f32⟩
  | 23 => ⟨S8x256x16384, .f32⟩
  | 24 => ⟨S8x16384x32, .f32⟩
  | 25 => ⟨S8x32x16384, .f32⟩
  | 26 => ⟨S1x32x1, .f32⟩
  | 27 => ⟨S8x32x16384, .f32⟩
  | 28 => ⟨S8x32x16384, .f32⟩
  | 29 => ⟨S8x32x16384, .f32⟩
  | 30 => ⟨S_, .f32⟩
  | 31 => ⟨S8x16384, .f32⟩
  | 32 => ⟨S8x1x16384, .f32⟩
  | 33 => ⟨S8x1x16384, .f32⟩
  | 34 => ⟨S8x32x16384, .f32⟩
  | 35 => ⟨S8x32x16384, .f32⟩
  | 36 => ⟨S8x16384x32, .f32⟩
  | 37 => ⟨S8x32x16384, .f32⟩
  | 38 => ⟨S1x32x1, .f32⟩
  | 39 => ⟨S8x32x16384, .f32⟩
  | 40 => ⟨S8x32x16384, .f32⟩
  | 41 => ⟨S8x32x16384, .f32⟩
  | 42 => ⟨S_, .f32⟩
  | 43 => ⟨S8x16384, .f32⟩
  | 44 => ⟨S8x1x16384, .f32⟩
  | 45 => ⟨S8x1x16384, .f32⟩
  | 46 => ⟨S8x32x16384, .f32⟩
  | 47 => ⟨S8x32x16384, .f32⟩
  | 48 => ⟨S8x16384x256, .f32⟩
  | 49 => ⟨S8x256x16384, .f32⟩
  | 50 => ⟨S1x256x1, .f32⟩
  | 51 => ⟨S8x256x16384, .f32⟩
  | 52 => ⟨S8x256x16384, .f32⟩
  | 53 => ⟨S8x16384x32, .f32⟩
  | 54 => ⟨S8x32x16384, .f32⟩
  | 55 => ⟨S1x32x1, .f32⟩
  | 56 => ⟨S8x32x16384, .f32⟩
  | 57 => ⟨S8x32x16384, .f32⟩
  | 58 => ⟨S8x32x16384, .f32⟩
  | 59 => ⟨S_, .f32⟩
  | 60 => ⟨S8x16384, .f32⟩
  | 61 => ⟨S8x1x16384, .f32⟩
  | 62 => ⟨S8x1x16384, .f32⟩
  | 63 => ⟨S8x32x16384, .f32⟩
  | 64 => ⟨S8x32x16384, .f32⟩
  | 65 => ⟨S8x16384x32, .f32⟩
  | 66 => ⟨S8x32x16384, .f32⟩
  | 67 => ⟨S1x32x1, .f32⟩
  | 68 => ⟨S8x32x16384, .f32⟩
  | 69 => ⟨S8x32x16384, .f32⟩
  | 70 => ⟨S8x32x16384, .f32⟩
  | 71 => ⟨S_, .f32⟩
  | 72 => ⟨S8x16384, .f32⟩
  | 73 => ⟨S8x1x16384, .f32⟩
  | 74 => ⟨S8x1x16384, .f32⟩
  | 75 => ⟨S8x32x16384, .f32⟩
  | 76 => ⟨S8x32x16384, .f32⟩
  | 77 => ⟨S8x16384x256, .f32⟩
  | 78 => ⟨S8x256x16384, .f32⟩
  | 79 => ⟨S1x256x1, .f32⟩
  | 80 => ⟨S8x256x16384, .f32⟩
  | 81 => ⟨S8x256x16384, .f32⟩
  | 82 => ⟨S8x16384x32, .f32⟩
  | 83 => ⟨S8x16384x32, .f32⟩
  | 84 => ⟨S_, .f32⟩
  | 85 => ⟨S8x32, .f32⟩
  | 86 => ⟨S_, .f32⟩
  | 87 => ⟨S8x32, .f32⟩
  | 88 => ⟨S8x32, .f32⟩
  | 89 => ⟨S_, .f32⟩
  | 90 => ⟨S8x32, .f32⟩
  | 91 => ⟨S_, .f32⟩
  | 92 => ⟨S8x32, .f32⟩
  | 93 => ⟨S8x32, .f32⟩
  | 94 => ⟨S_, .f32⟩
  | 95 => ⟨S8x256, .f32⟩
  | 96 => ⟨S_, .f32⟩
  | 97 => ⟨S8x256, .f32⟩
  | 98 => ⟨S8x32x256, .f32⟩
  | 99 => ⟨S8x32x256, .f32⟩
  | 100 => ⟨S8x16384, .f32⟩
  | 101 => ⟨S_, .f32⟩
  | 102 => ⟨S8x16384, .f32⟩
  | 103 => ⟨S8x16384, .f32⟩
  | 104 => ⟨S_, .f32⟩
  | 105 => ⟨S8x16384, .f32⟩
  | 106 => ⟨S8x16384, .f32⟩
  | 107 => ⟨S8x256x1, .f32⟩
  | 108 => ⟨S8x256x16384, .f32⟩
  | 109 => ⟨S8x256x16384, .f32⟩
  | 110 => ⟨S8x256x16384, .f32⟩
  | 111 => ⟨S8x1x16384, .f32⟩
  | 112 => ⟨S8x256x16384, .f32⟩
  | 113 => ⟨S8x256x16384, .f32⟩
  | 114 => ⟨S1x1x1, .f32⟩
  | 115 => ⟨S8x256x16384, .f32⟩
  | 116 => ⟨S8x256x16384, .f32⟩
  | 117 => ⟨S8x16384, .f32⟩
  | 118 => ⟨S_, .f32⟩
  | 119 => ⟨S8x16384, .f32⟩
  | 120 => ⟨S8x16384, .f32⟩
  | 121 => ⟨S_, .f32⟩
  | 122 => ⟨S8x16384, .f32⟩
  | 123 => ⟨S8x16384, .f32⟩
  | 124 => ⟨S8x256x1, .f32⟩
  | 125 => ⟨S8x256x16384, .f32⟩
  | 126 => ⟨S8x256x16384, .f32⟩
  | 127 => ⟨S8x256x16384, .f32⟩
  | _ => ⟨S8x16384x256, .f32⟩

abbrev hbmTy0_1 (i : Nat) : BufTy := match i % 128 with
  | 0 => ⟨S8x1x16384, .f32⟩
  | 1 => ⟨S8x256x16384, .f32⟩
  | 2 => ⟨S8x256x16384, .f32⟩
  | 3 => ⟨S1x1x1, .f32⟩
  | 4 => ⟨S8x256x16384, .f32⟩
  | 5 => ⟨S8x256x16384, .f32⟩
  | 6 => ⟨S8x16384, .f32⟩
  | 7 => ⟨S_, .f32⟩
  | 8 => ⟨S8x16384, .f32⟩
  | 9 => ⟨S8x16384, .f32⟩
  | 10 => ⟨S_, .f32⟩
  | 11 => ⟨S8x16384, .f32⟩
  | 12 => ⟨S8x16384, .f32⟩
  | 13 => ⟨S8x256x1, .f32⟩
  | 14 => ⟨S8x256x16384, .f32⟩
  | 15 => ⟨S8x256x16384, .f32⟩
  | 16 => ⟨S8x256x16384, .f32⟩
  | 17 => ⟨S8x1x16384, .f32⟩
  | 18 => ⟨S8x256x16384, .f32⟩
  | 19 => ⟨S8x256x16384, .f32⟩
  | 20 => ⟨S1x1x1, .f32⟩
  | 21 => ⟨S8x256x16384, .f32⟩
  | 22 => ⟨S8x256x16384, .f32⟩
  | 23 => ⟨S8x16384, .f32⟩
  | 24 => ⟨S_, .f32⟩
  | 25 => ⟨S8x16384, .f32⟩
  | 26 => ⟨S8x16384, .f32⟩
  | 27 => ⟨S_, .f32⟩
  | 28 => ⟨S8x16384, .f32⟩
  | 29 => ⟨S8x16384, .f32⟩
  | 30 => ⟨S8x256x1, .f32⟩
  | 31 => ⟨S8x256x16384, .f32⟩
  | 32 => ⟨S8x256x16384, .f32⟩
  | 33 => ⟨S8x256x16384, .f32⟩
  | 34 => ⟨S8x1x16384, .f32⟩
  | 35 => ⟨S8x256x16384, .f32⟩
  | 36 => ⟨S8x256x16384, .f32⟩
  | 37 => ⟨S1x1x1, .f32⟩
  | 38 => ⟨S8x256x16384, .f32⟩
  | 39 => ⟨S8x256x16384, .f32⟩
  | 40 => ⟨S8x256x16384, .f32⟩
  | 41 => ⟨S8x256x16384, .f32⟩
  | 42 => ⟨S8x256x16384, .f32⟩
  | 43 => ⟨S8x256x16384, .f32⟩
  | 44 => ⟨S8x256x16384, .f32⟩
  | 45 => ⟨S8x16384x256, .f32⟩
  | 46 => ⟨S8x256x16384, .f32⟩
  | 47 => ⟨S8x256x16384, .f32⟩
  | 48 => ⟨S8x256x16384, .f32⟩
  | 49 => ⟨S8x256x16384, .f32⟩
  | 50 => ⟨S8x256x16384, .f32⟩
  | 51 => ⟨S8x16384x256, .f32⟩
  | _ => ⟨S8x16384x256, .f32⟩

abbrev hbmTy (i : Nat) : BufTy := match i / 128 with
  | 0 => hbmTy0_0 i
  | 1 => hbmTy0_1 i
  | _ => ⟨S8x16384x256, .f32⟩

abbrev bufTy : (tb : Table) → Fin (tcTables nBuf tb) → BufTy
  | .hbm, ⟨i, _⟩ => hbmTy i
  | _, _ => ⟨S8x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call2_v0 : Ref sig .tc := ⟨.hbm, 58, rfl⟩
abbrev main_call2_cst : Ref sig .tc := ⟨.hbm, 59, rfl⟩
abbrev main_call2_v1 : Ref sig .tc := ⟨.hbm, 60, rfl⟩
abbrev main_call2_v2 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call3_v0 : Ref sig .tc := ⟨.hbm, 70, rfl⟩
abbrev main_call3_cst : Ref sig .tc := ⟨.hbm, 71, rfl⟩
abbrev main_call3_v1 : Ref sig .tc := ⟨.hbm, 72, rfl⟩
abbrev main_call3_v2 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst : Ref sig .tc := ⟨.hbm, 84, rfl⟩
abbrev main_v46 : Ref sig .tc := ⟨.hbm, 85, rfl⟩
abbrev main_cst_0 : Ref sig .tc := ⟨.hbm, 86, rfl⟩
abbrev main_v47 : Ref sig .tc := ⟨.hbm, 87, rfl⟩
abbrev main_v48 : Ref sig .tc := ⟨.hbm, 88, rfl⟩
abbrev main_cst_1 : Ref sig .tc := ⟨.hbm, 89, rfl⟩
abbrev main_v49 : Ref sig .tc := ⟨.hbm, 90, rfl⟩
abbrev main_cst_2 : Ref sig .tc := ⟨.hbm, 91, rfl⟩
abbrev main_v50 : Ref sig .tc := ⟨.hbm, 92, rfl⟩
abbrev main_v51 : Ref sig .tc := ⟨.hbm, 93, rfl⟩
abbrev main_cst_3 : Ref sig .tc := ⟨.hbm, 94, rfl⟩
abbrev main_v52 : Ref sig .tc := ⟨.hbm, 95, rfl⟩
abbrev main_cst_4 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_5 : Ref sig .tc := ⟨.hbm, 101, rfl⟩
abbrev main_v57 : Ref sig .tc := ⟨.hbm, 102, rfl⟩
abbrev main_v58 : Ref sig .tc := ⟨.hbm, 103, rfl⟩
abbrev main_cst_6 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_7 : Ref sig .tc := ⟨.hbm, 118, rfl⟩
abbrev main_v72 : Ref sig .tc := ⟨.hbm, 119, rfl⟩
abbrev main_v73 : Ref sig .tc := ⟨.hbm, 120, rfl⟩
abbrev main_cst_8 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_9 : Ref sig .tc := ⟨.hbm, 135, rfl⟩
abbrev main_v87 : Ref sig .tc := ⟨.hbm, 136, rfl⟩
abbrev main_v88 : Ref sig .tc := ⟨.hbm, 137, rfl⟩
abbrev main_cst_10 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_11 : Ref sig .tc := ⟨.hbm, 152, rfl⟩
abbrev main_v102 : Ref sig .tc := ⟨.hbm, 153, rfl⟩
abbrev main_v103 : Ref sig .tc := ⟨.hbm, 154, rfl⟩
abbrev main_cst_12 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩

abbrev nD : Nat := 1
abbrev τ : Topo := Topo.v7x

variable {F : FTy → Type} [FloatOps F]
-- ==== Proof.State.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-!
What one grid point of the kernel does to the scratch buffers and to the two output blocks, as plain functions of
the contents it finds (`stA`, `stM`, `outX`, `outY`), and the execution of the body against those functions.
-/

open VecWindow (window put)

variable {F : FTy → Type} [FloatOps F]

local notation "𝕄" => MT nD τ sig Unit (Elt F) ℕ (UR sig nD τ) ℕ

abbrev scQx : Memref sig .tc .vmem S2x16384x32 .f32 := Memref.whole cc0_scratch0
abbrev scQy : Memref sig .tc .vmem S2x16384x32 .f32 := Memref.whole cc0_scratch1
abbrev scMx : Memref sig .tc .vmem S2x32x256 .f32 := Memref.whole cc0_scratch2
abbrev scMy : Memref sig .tc .vmem S2x32x256 .f32 := Memref.whole cc0_scratch3
abbrev scKx : Memref sig .tc .vmem S2x1x32 .f32 := Memref.whole cc0_scratch4
abbrev scKy : Memref sig .tc .vmem S2x1x32 .f32 := Memref.whole cc0_scratch5
abbrev scXx : Memref sig .tc .vmem S2x1x256 .f32 := Memref.whole cc0_scratch6
abbrev scXy : Memref sig .tc .vmem S2x1x256 .f32 := Memref.whole cc0_scratch7
abbrev scAx : Memref sig .tc .vmem S32x512 .f32 := Memref.whole cc0_scratch8
abbrev scAy : Memref sig .tc .vmem S32x512 .f32 := Memref.whole cc0_scratch9
abbrev scVx : Memref sig .tc .vmem S1x256 .f32 := Memref.whole cc0_scratch10
abbrev scVy : Memref sig .tc .vmem S1x256 .f32 := Memref.whole cc0_scratch11
abbrev scKp : Memref sig .tc .vmem S32x2 .f32 := Memref.whole cc0_scratch12

/-- The contents of the thirteen scratch buffers. -/
structure St (F : FTy → Type) where
  qx : S2x16384x32.Idx → Elt F .f32
  qy : S2x16384x32.Idx → Elt F .f32
  mx : S2x32x256.Idx → Elt F .f32
  my : S2x32x256.Idx → Elt F .f32
  kx : S2x1x32.Idx → Elt F .f32
  ky : S2x1x32.Idx → Elt F .f32
  xx : S2x1x256.Idx → Elt F .f32
  xy : S2x1x256.Idx → Elt F .f32
  ax : S32x512.Idx → Elt F .f32
  ay : S32x512.Idx → Elt F .f32
  vx : S1x256.Idx → Elt F .f32
  vy : S1x256.Idx → Elt F .f32
  kp : S32x2.Idx → Elt F .f32

/-- The contents of the eleven input blocks at a grid point. -/
structure Ins (F : FTy → Type) where
  x : S1x2048x256.Idx → Elt F .f32
  y : S1x2048x256.Idx → Elt F .f32
  wqk : S64x256.Idx → Elt F .f32
  bqk : S1x64.Idx → Elt F .f32
  wqky : S64x256.Idx → Elt F .f32
  bqky : S1x64.Idx → Elt F .f32
  wv : S256x256.Idx → Elt F .f32
  bv : S1x256.Idx → Elt F .f32
  wvy : S256x256.Idx → Elt F .f32
  bvy : S1x256.Idx → Elt F .f32
  s : S4.Idx → Elt F .f32

variable (i : grid0.Coords) (I : Ins F) (s : St F)

def Ins.wq : Vec F S32x256 .f32 := window I.wqk ![0, 0] S32x256.size inb_S64x256_S32x256_0_0
def Ins.wk : Vec F S32x256 .f32 := window I.wqk ![32, 0] S32x256.size inb_S64x256_S32x256_32_0
def Ins.bq : Vec F S1x32 .f32 := window I.bqk ![0, 0] S1x32.size inb_S1x64_S1x32_0_0
def Ins.bk : Vec F S1x32 .f32 := window I.bqk ![0, 32] S1x32.size inb_S1x64_S1x32_0_32
def Ins.wqy : Vec F S32x256 .f32 := window I.wqky ![0, 0] S32x256.size inb_S64x256_S32x256_0_0
def Ins.wky : Vec F S32x256 .f32 := window I.wqky ![32, 0] S32x256.size inb_S64x256_S32x256_32_0
def Ins.bqy : Vec F S1x32 .f32 := window I.bqky ![0, 0] S1x32.size inb_S1x64_S1x32_0_0
def Ins.bky : Vec F S1x32 .f32 := window I.bqky ![0, 32] S1x32.size inb_S1x64_S1x32_0_32

/-- The number of rows, 16384, as the kernel writes it. -/
def rows : F .f32 := Scalar.ofBits .f32 0x46800000#32

/-- What an accumulator's slot holds before this point adds to it: zeros at the batch's first block. -/
def prior {T : Shape} (z x : T.Idx → Elt F .f32) : T.Idx → Elt F .f32 := if k0_cond1 i = 1#1 then z else x

/-- The accumulating phase: this point's normalised queries, and the running sums of keys against rows, of keys, and of rows. -/
def stA : St F := if h : k0_cond2 i = 1#1 then
  { s with
    qx := put s.qx (k0_off4 i) S1x2048x32.size (k0_pay13 I.x I.wq I.bq)
    qy := put s.qy (k0_off4 i) S1x2048x32.size (k0_pay22 (k0_pay20 I.y I.wqy I.bqy))
    mx := put s.mx (k0_off5 i) S1x32x256.size (k0_pay15 (k0_pay14 I.x I.wk I.bk
      (prior i k0_pay1 (window s.mx (k0_off5 i) S1x32x256.size (k0_off5_inb i h)))))
    my := put s.my (k0_off5 i) S1x32x256.size (k0_pay23 (k0_pay18 I.y) (k0_pay19 I.wky) I.bky
      (prior i k0_pay2 (window s.my (k0_off5 i) S1x32x256.size (k0_off5_inb i h))))
    kx := put s.kx (k0_off6 i) S1x1x32.size (k0_pay16 (k0_pay12 I.x I.wk I.bk)
      (prior i k0_pay3 (window s.kx (k0_off6 i) S1x1x32.size (k0_off6_inb i h))))
    ky := put s.ky (k0_off6 i) S1x1x32.size (k0_pay24 (k0_pay18 I.y) (k0_pay19 I.wky) I.bky
      (prior i k0_pay4 (window s.ky (k0_off6 i) S1x1x32.size (k0_off6_inb i h))))
    xx := put s.xx (k0_off7 i) S1x1x256.size (k0_pay17 (k0_pay11 I.x)
      (prior i k0_pay5 (window s.xx (k0_off7 i) S1x1x256.size (k0_off7_inb i h))))
    xy := put s.xy (k0_off7 i) S1x1x256.size (k0_pay7 (k0_pay18 I.y)
      (prior i k0_pay6 (window s.xy (k0_off7 i) S1x1x256.size (k0_off7_inb i h)))) }
  else s

/-- The two columns of key sums beside each other. -/
def columns (a b : Vec F S32x1 .f32) : S32x2.Idx → Elt F .f32 :=
  put (put (fun _ => rows) ![0, 0] S32x1.size a) ![0, 1] S32x1.size b

/-- The finishing of a batch's sums, from the accumulators `k` (key sums), `m` (keys against rows), `r` (row sums) of either stream. -/
def finish (kx ky : Vec F S1x1x32 .f32) (mx my : Vec F S1x32x256 .f32) (rx ry : Vec F S1x1x256 .f32) : St F :=
  { s with
    ax := k0_pay30 (k0_pay27 kx mx I.wv I.bv) (k0_pay28 ky my I.wvy I.bvy)
    ay := k0_pay31 (k0_pay27 kx mx I.wv I.bv) (k0_pay28 ky my I.wvy I.bvy)
    vx := k0_pay32 rows (k0_pay29 rx I.wv) I.bv
    vy := k0_pay33 rows ry I.wvy I.bvy
    kp := columns (k0_pay34 (k0_pay25 kx)) (k0_pay8 (k0_pay35 (k0_pay26 ky))) }

/-- The finishing phase, run once at the head of the batch that follows. -/
def stM : St F := if h : k0_cond3 i = 1#1 then
  finish I s (window s.kx (k0_off8 i) S1x1x32.size (k0_off8_inb i h)) (window s.ky (k0_off8 i) S1x1x32.size (k0_off8_inb i h))
    (window s.mx (k0_off9 i) S1x32x256.size (k0_off9_inb i h)) (window s.my (k0_off9 i) S1x32x256.size (k0_off9_inb i h))
    (window s.xx (k0_off10 i) S1x1x256.size (k0_off10_inb i h)) (window s.xy (k0_off10 i) S1x1x256.size (k0_off10_inb i h))
  else s

/-- Entry `k` of an array of four. -/
def entry (k : Fin 4) : S4.Idx := fun a => ⟨k.val, by have h : a = 0 := Fin.fin_one_eq_zero a; subst h; exact k.isLt⟩

/-- The four scale factors. -/
def Ins.w (k : Fin 4) : Elt F .f32 := I.s (entry k)

/-- The first result's block from a block of queries and the finished sums. -/
def blockX (q : Vec F S1x2048x32 .f32) : S1x2048x256.Idx → Elt F .f32 :=
  k0_pay9 (k0_pay40 rows q s.kp (I.w 0)) (k0_pay41 rows q s.kp (I.w 1)) (k0_pay44 q s.ax) s.vx

/-- The second result's block from a block of queries and the finished sums. -/
def blockY (q : Vec F S1x2048x32 .f32) : S1x2048x256.Idx → Elt F .f32 :=
  k0_pay10 (k0_pay42 rows q s.kp (I.w 2)) (k0_pay43 rows q s.kp (I.w 3)) (k0_pay45 q s.ay) s.vy

/-- The first output block after the point, over what it held. -/
def outX (o : S1x2048x256.Idx → Elt F .f32) : S1x2048x256.Idx → Elt F .f32 :=
  if h : k0_cond4 i = 1#1 then blockX I s (window s.qx (k0_off11 i) S1x2048x32.size (k0_off11_inb i h)) else o

/-- The second output block after the point, over what it held. -/
def outY (o : S1x2048x256.Idx → Elt F .f32) : S1x2048x256.Idx → Elt F .f32 :=
  if h : k0_cond4 i = 1#1 then blockY I s (window s.qy (k0_off11 i) S1x2048x32.size (k0_off11_inb i h)) else o

/-- One grid point's effect on the scratch buffers. -/
def step : St F := stM i I (stA i I s)

/-- Two columns put over both halves hide whatever was there. -/
theorem put_columns (x : S32x2.Idx → Elt F .f32) (a b : Vec F S32x1 .f32) :
    put (put x ![0, 0] S32x1.size a) ![0, 1] S32x1.size b = columns a b := by
  funext y
  unfold columns
  by_cases h : ∀ k, (![0, 1] : Fin 2 → ℕ) k ≤ (y k).val ∧ (y k).val < (![0, 1] : Fin 2 → ℕ) k + S32x1.size k
  · have e : ∀ z : S32x2.Idx → Elt F .f32, put z ![0, 1] S32x1.size b y = b (Rect.unitLocal (s := S32x2) (off := ![0, 1]) (size := S32x1.size) y h) := fun z => dif_pos h
    rw [e, e]
  · have hy : (y 1).val = 0 := by
      have h1 : (y 1).val < 2 := (y 1).isLt
      have h0 : (y 0).val < 32 := (y 0).isLt
      by_contra hne
      exact h fun k => match k with
        | 0 => ⟨Nat.zero_le _, by show (y 0).val < 0 + 32; omega⟩
        | 1 => ⟨by show 1 ≤ (y 1).val; omega, by show (y 1).val < 1 + 1; omega⟩
    have h' : ∀ k, (![0, 0] : Fin 2 → ℕ) k ≤ (y k).val ∧ (y k).val < (![0, 0] : Fin 2 → ℕ) k + S32x1.size k := fun k => match k with
      | 0 => ⟨Nat.zero_le _, by show (y 0).val < 0 + 32; have h0 : (y 0).val < 32 := (y 0).isLt; omega⟩
      | 1 => ⟨Nat.zero_le _, by show (y 1).val < 0 + 1; omega⟩
    have e : ∀ z : S32x2.Idx → Elt F .f32, put z ![0, 1] S32x1.size b y = z y := fun z => dif_neg h
    have e' : ∀ z : S32x2.Idx → Elt F .f32, put z ![0, 0] S32x1.size a y = a (Rect.unitLocal (s := S32x2) (off := ![0, 0]) (size := S32x1.size) y h') := fun z => dif_pos h'
    rw [e, e, e', e']

/-- One of the four weights, read out of its array as a window of one entry. -/
theorem weight_eq (x : S4.Idx → Elt F .f32) (k : Fin 4) (off : Fin 1 → ℕ) (h : off 0 = k.val) (inb : ∀ a, off a + (![1] : Fin 1 → ℕ) a ≤ S4.size a)
    (y : (Rect.unit (s := S4) off ![1] inb).shape.Idx) : window x off ![1] inb y = x (entry k) := by
  refine congrArg x (funext fun a => Fin.ext ?_)
  have ha : a = 0 := Fin.fin_one_eq_zero a
  subst ha
  have hy : (y 0).val < 1 := (y 0).isLt
  show off 0 + 1 * (y 0).val = k.val
  omega
theorem weight_0 (I : Ins F) (inb) (y) : window I.s ![0] ![1] inb y = I.w 0 := weight_eq I.s 0 ![0] rfl inb y
theorem weight_1 (I : Ins F) (inb) (y) : window I.s ![1] ![1] inb y = I.w 1 := weight_eq I.s 1 ![1] rfl inb y
theorem weight_2 (I : Ins F) (inb) (y) : window I.s ![2] ![1] inb y = I.w 2 := weight_eq I.s 2 ![2] rfl inb y
theorem weight_3 (I : Ins F) (inb) (y) : window I.s ![3] ![1] inb y = I.w 3 := weight_eq I.s 3 ![3] rfl inb y

/-- The window that is all of the columns' buffer. -/
theorem window_all (x : S32x2.Idx → Elt F .f32) (inb) : window x ![0, 0] ![32, 2] inb = x := by
  funext y
  refine congrArg x (funext fun a => Fin.ext ?_)
  match a with
  | 0 => show 0 + 1 * (y 0).val = (y 0).val; omega
  | 1 => show 0 + 1 * (y 1).val = (y 1).val; omega

/-- The two output blocks depend on the columns and the weights through their values alone. -/
theorem congrX {q' : Vec F S1x2048x32 .f32} {p p' : Vec F S32x2 .f32} {a a' b b' : Elt F .f32} {A : Vec F S32x512 .f32} {v : Vec F S1x256 .f32} (hp : p = p') (ha : a = a') (hb : b = b') :
    k0_pay9 (k0_pay40 rows q' p a) (k0_pay41 rows q' p b) (k0_pay44 q' A) v = k0_pay9 (k0_pay40 rows q' p' a') (k0_pay41 rows q' p' b') (k0_pay44 q' A) v := by
  rw [hp, ha, hb]
theorem congrY {q' : Vec F S1x2048x32 .f32} {p p' : Vec F S32x2 .f32} {a a' b b' : Elt F .f32} {A : Vec F S32x512 .f32} {v : Vec F S1x256 .f32} (hp : p = p') (ha : a = a') (hb : b = b') :
    k0_pay10 (k0_pay42 rows q' p a) (k0_pay43 rows q' p b) (k0_pay45 q' A) v = k0_pay10 (k0_pay42 rows q' p' a') (k0_pay43 rows q' p' b') (k0_pay45 q' A) v := by
  rw [hp, ha, hb]

/-- A memref of the core held whole at the contents `X`. -/
def own (c : Dev nD) {sp : Space} {S : Shape} {e : EltTy} (M : Memref sig .tc sp S e) (X : S.Idx → Elt F e) : sProp 𝕄 :=
  owns (c : Thread nD τ) M fullShare X

/-- Whole memrefs: held at some contents that read `X`. -/
theorem own_eq (c : Dev nD) {sp : Space} {S : Shape} {e : EltTy} (M : Memref sig .tc sp S e) (H : M.IsWhole) (X : S.Idx → Elt F e) :
    (own c M X : sProp 𝕄) = iprop(∃ f : Buf (Elt F) (M.view.loc (c : Thread nD τ)), ⌜M.view.read (Elt F) f = X⌝ ∗ (M.view.loc (c : Thread nD τ) ↦{fullShare} f)) := by
  obtain ⟨b, hsp, hsh, he, h⟩ := H
  subst hsp hsh he
  cases h
  exact owns_whole_eq _ _ _ _

/-- A whole memref's contents are held at what they read. -/
theorem own_intro (c : Dev nD) {sp : Space} {S : Shape} {e : EltTy} (M : Memref sig .tc sp S e) (H : M.IsWhole)
    (f : Buf (Elt F) (M.view.loc (c : Thread nD τ))) (X : S.Idx → Elt F e) (h : M.view.read (Elt F) f = X) :
    (M.view.loc (c : Thread nD τ) ↦{fullShare} f : sProp 𝕄) ⊢ own c M X := by
  rw [own_eq c M H]; iintro H; iexists f; isplitr; · ipureintro; exact h
  · iexact H

/-- A load at a unit-stride rectangle reads a window. -/
theorem readAt_window {κ : Kind} {sp : Space} {S : Shape} {e : EltTy} (v : View sig κ sp S e) (f : v.ty.Contents (Elt F))
    {off size : Fin S.rank → ℕ} (inb : ∀ a, off a + size a ≤ S.size a) :
    v.readAt (Elt F) (Rect.unit off size inb).toLoadRect f = window (v.read (Elt F) f) off size inb := rfl

/-- A store at a unit-stride rectangle puts its payload over a window. -/
theorem read_store {κ : Kind} {sp : Space} {S : Shape} {e : EltTy} (v : View sig κ sp S e) (f : v.ty.Contents (Elt F))
    {off size : Fin S.rank → ℕ} (inb : ∀ a, off a + size a ≤ S.size a) (w : (Rect.unit off size inb).shape.Idx → Elt F e)
    (L : List (View.Piece (Elt F) S e)) :
    v.read (Elt F) (v.writes (Elt F) f (⟨Rect.unit off size inb, w⟩ :: L)) = put (v.read (Elt F) (v.writes (Elt F) f L)) off size w :=
  View.read_writes_cons_put v f inb w L rfl

/-- A load from stores alone, at any contents under them. -/
theorem readCov_eq {κ : Kind} {sp : Space} {S : Shape} {e : EltTy} (v : View sig κ sp S e) (L : List (View.Piece (Elt F) S e)) (R : LoadRect S) :
    v.readCov L R = v.readAt (Elt F) R (v.writes (Elt F) v.junk L) := rfl

/-- The zeroing and the accumulation address the same slot. -/
theorem off1_eq (i : grid0.Coords) : k0_off1 i = k0_off5 i := rfl
theorem off2_eq (i : grid0.Coords) : k0_off2 i = k0_off6 i := rfl
theorem off3_eq (i : grid0.Coords) : k0_off3 i = k0_off7 i := rfl

abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f

/-- Thirteen buffers of the scratch buffers' shapes, held whole at the contents `s`. -/
def scrOf (c : Dev nD) (s : St F)
    (N0 : Memref sig .tc .vmem S2x16384x32 .f32)
    (N1 : Memref sig .tc .vmem S2x16384x32 .f32)
    (N2 : Memref sig .tc .vmem S2x32x256 .f32)
    (N3 : Memref sig .tc .vmem S2x32x256 .f32)
    (N4 : Memref sig .tc .vmem S2x1x32 .f32)
    (N5 : Memref sig .tc .vmem S2x1x32 .f32)
    (N6 : Memref sig .tc .vmem S2x1x256 .f32)
    (N7 : Memref sig .tc .vmem S2x1x256 .f32)
    (N8 : Memref sig .tc .vmem S32x512 .f32)
    (N9 : Memref sig .tc .vmem S32x512 .f32)
    (N10 : Memref sig .tc .vmem S1x256 .f32)
    (N11 : Memref sig .tc .vmem S1x256 .f32)
    (N12 : Memref sig .tc .vmem S32x2 .f32) : sProp 𝕄 :=
  iprop(own c N0 s.qx ∗ own c N1 s.qy ∗ own c N2 s.mx ∗ own c N3 s.my ∗ own c N4 s.kx ∗ own c N5 s.ky ∗ own c N6 s.xx ∗ own c N7 s.xy ∗ own c N8 s.ax ∗ own c N9 s.ay ∗ own c N10 s.vx ∗ own c N11 s.vy ∗ own c N12 s.kp)

/-- The scratch buffers, held whole at the contents `s`. -/
def scr (c : Dev nD) (s : St F) : sProp 𝕄 := scrOf c s scQx scQy scMx scMy scKx scKy scXx scXy scAx scAy scVx scVy scKp

/-- What the body leaves: the input blocks as they were, the two outputs and the scratch buffers after the point. -/
def left (c : Dev nD) (i : grid0.Coords) (I : Ins F) (s : St F) (o1 o2 : S1x2048x256.Idx → Elt F .f32)
    (M2 : Memref sig .tc .vmem S1x2048x256 .f32)
    (M3 : Memref sig .tc .vmem S1x2048x256 .f32)
    (M4 : Memref sig .tc .vmem S64x256 .f32)
    (M5 : Memref sig .tc .vmem S1x64 .f32)
    (M6 : Memref sig .tc .vmem S64x256 .f32)
    (M7 : Memref sig .tc .vmem S1x64 .f32)
    (M8 : Memref sig .tc .vmem S256x256 .f32)
    (M9 : Memref sig .tc .vmem S1x256 .f32)
    (M10 : Memref sig .tc .vmem S256x256 .f32)
    (M11 : Memref sig .tc .vmem S1x256 .f32)
    (M12 : Memref sig .tc .smem S4 .f32)
    (M13 : Memref sig .tc .vmem S1x2048x256 .f32)
    (M14 : Memref sig .tc .vmem S1x2048x256 .f32)
    (N0 : Memref sig .tc .vmem S2x16384x32 .f32)
    (N1 : Memref sig .tc .vmem S2x16384x32 .f32)
    (N2 : Memref sig .tc .vmem S2x32x256 .f32)
    (N3 : Memref sig .tc .vmem S2x32x256 .f32)
    (N4 : Memref sig .tc .vmem S2x1x32 .f32)
    (N5 : Memref sig .tc .vmem S2x1x32 .f32)
    (N6 : Memref sig .tc .vmem S2x1x256 .f32)
    (N7 : Memref sig .tc .vmem S2x1x256 .f32)
    (N8 : Memref sig .tc .vmem S32x512 .f32)
    (N9 : Memref sig .tc .vmem S32x512 .f32)
    (N10 : Memref sig .tc .vmem S1x256 .f32)
    (N11 : Memref sig .tc .vmem S1x256 .f32)
    (N12 : Memref sig .tc .vmem S32x2 .f32) : sProp 𝕄 :=
  iprop(own c M2 I.x ∗ own c M3 I.y ∗ own c M4 I.wqk ∗ own c M5 I.bqk ∗ own c M6 I.wqky ∗ own c M7 I.bqky ∗ own c M8 I.wv ∗ own c M9 I.bv ∗ own c M10 I.wvy ∗ own c M11 I.bvy ∗ own c M12 I.s
    ∗ own c M13 (outX i I (step i I s) o1) ∗ own c M14 (outY i I (step i I s) o2) ∗ scrOf c (step i I s) N0 N1 N2 N3 N4 N5 N6 N7 N8 N9 N10 N11 N12)

end Cert.KernelIdeal.Hand
-- ==== Proof.Body.lean ====
module

public import proofs.«01_k».proof.Proof.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The kernel's body run symbolically at one grid point. -/

variable {F : FTy → Type} [FloatOps F]
local notation "𝕄" => MT nD τ sig Unit (Elt F) ℕ (UR sig nD τ) ℕ

set_option maxHeartbeats 16000000 in
/-- The body's execution over the raw contents of its buffers. -/
theorem body_raw (c : Dev nD) (i : grid0.Coords) (h12 : k0_cond1 i = 1#1 → k0_cond2 i = 1#1) (h34 : k0_cond3 i = 1#1 → k0_cond4 i = 1#1)
    (M2 : Memref sig .tc .vmem S1x2048x256 .f32) (H2 : M2.IsWhole)
    (M3 : Memref sig .tc .vmem S1x2048x256 .f32) (H3 : M3.IsWhole)
    (M4 : Memref sig .tc .vmem S64x256 .f32) (H4 : M4.IsWhole)
    (M5 : Memref sig .tc .vmem S1x64 .f32) (H5 : M5.IsWhole)
    (M6 : Memref sig .tc .vmem S64x256 .f32) (H6 : M6.IsWhole)
    (M7 : Memref sig .tc .vmem S1x64 .f32) (H7 : M7.IsWhole)
    (M8 : Memref sig .tc .vmem S256x256 .f32) (H8 : M8.IsWhole)
    (M9 : Memref sig .tc .vmem S1x256 .f32) (H9 : M9.IsWhole)
    (M10 : Memref sig .tc .vmem S256x256 .f32) (H10 : M10.IsWhole)
    (M11 : Memref sig .tc .vmem S1x256 .f32) (H11 : M11.IsWhole)
    (M12 : Memref sig .tc .smem S4 .f32) (H12 : M12.IsWhole)
    (M13 : Memref sig .tc .vmem S1x2048x256 .f32) (H13 : M13.IsWhole)
    (M14 : Memref sig .tc .vmem S1x2048x256 .f32) (H14 : M14.IsWhole)
    (N0 : Memref sig .tc .vmem S2x16384x32 .f32) (J0 : N0.IsWhole)
    (N1 : Memref sig .tc .vmem S2x16384x32 .f32) (J1 : N1.IsWhole)
    (N2 : Memref sig .tc .vmem S2x32x256 .f32) (J2 : N2.IsWhole)
    (N3 : Memref sig .tc .vmem S2x32x256 .f32) (J3 : N3.IsWhole)
    (N4 : Memref sig .tc .vmem S2x1x32 .f32) (J4 : N4.IsWhole)
    (N5 : Memref sig .tc .vmem S2x1x32 .f32) (J5 : N5.IsWhole)
    (N6 : Memref sig .tc .vmem S2x1x256 .f32) (J6 : N6.IsWhole)
    (N7 : Memref sig .tc .vmem S2x1x256 .f32) (J7 : N7.IsWhole)
    (N8 : Memref sig .tc .vmem S32x512 .f32) (J8 : N8.IsWhole)
    (N9 : Memref sig .tc .vmem S32x512 .f32) (J9 : N9.IsWhole)
    (N10 : Memref sig .tc .vmem S1x256 .f32) (J10 : N10.IsWhole)
    (N11 : Memref sig .tc .vmem S1x256 .f32) (J11 : N11.IsWhole)
    (N12 : Memref sig .tc .vmem S32x2 .f32) (J12 : N12.IsWhole)
    (f2 : BufOf (F := F) c M2) (f3 : BufOf (F := F) c M3) (f4 : BufOf (F := F) c M4) (f5 : BufOf (F := F) c M5) (f6 : BufOf (F := F) c M6) (f7 : BufOf (F := F) c M7) (f8 : BufOf (F := F) c M8) (f9 : BufOf (F := F) c M9) (f10 : BufOf (F := F) c M10) (f11 : BufOf (F := F) c M11) (f12 : BufOf (F := F) c M12) (f13 : BufOf (F := F) c M13) (f14 : BufOf (F := F) c M14)
    (g0 : BufOf (F := F) c N0) (g1 : BufOf (F := F) c N1) (g2 : BufOf (F := F) c N2) (g3 : BufOf (F := F) c N3) (g4 : BufOf (F := F) c N4) (g5 : BufOf (F := F) c N5) (g6 : BufOf (F := F) c N6) (g7 : BufOf (F := F) c N7) (g8 : BufOf (F := F) c N8) (g9 : BufOf (F := F) c N9) (g10 : BufOf (F := F) c N10) (g11 : BufOf (F := F) c N11) (g12 : BufOf (F := F) c N12)
    (I : Ins F) (s : St F) (o1 o2 : S1x2048x256.Idx → Elt F .f32)
    (e2 : M2.view.read (Elt F) f2 = I.x) (e3 : M3.view.read (Elt F) f3 = I.y) (e4 : M4.view.read (Elt F) f4 = I.wqk) (e5 : M5.view.read (Elt F) f5 = I.bqk) (e6 : M6.view.read (Elt F) f6 = I.wqky) (e7 : M7.view.read (Elt F) f7 = I.bqky) (e8 : M8.view.read (Elt F) f8 = I.wv) (e9 : M9.view.read (Elt F) f9 = I.bv) (e10 : M10.view.read (Elt F) f10 = I.wvy) (e11 : M11.view.read (Elt F) f11 = I.bvy) (e12 : M12.view.read (Elt F) f12 = I.s)
    (e13 : M13.view.read (Elt F) f13 = o1) (e14 : M14.view.read (Elt F) f14 = o2)
    (d0 : N0.view.read (Elt F) g0 = s.qx) (d1 : N1.view.read (Elt F) g1 = s.qy) (d2 : N2.view.read (Elt F) g2 = s.mx) (d3 : N3.view.read (Elt F) g3 = s.my) (d4 : N4.view.read (Elt F) g4 = s.kx) (d5 : N5.view.read (Elt F) g5 = s.ky) (d6 : N6.view.read (Elt F) g6 = s.xx) (d7 : N7.view.read (Elt F) g7 = s.xy) (d8 : N8.view.read (Elt F) g8 = s.ax) (d9 : N9.view.read (Elt F) g9 = s.ay) (d10 : N10.view.read (Elt F) g10 = s.vx) (d11 : N11.view.read (Elt F) g11 = s.vy) (d12 : N12.view.read (Elt F) g12 = s.kp)
    (K : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14
      ∗ pt c N0 g0 ∗ pt c N1 g1 ∗ pt c N2 g2 ∗ pt c N3 g3 ∗ pt c N4 g4 ∗ pt c N5 g5 ∗ pt c N6 g6 ∗ pt c N7 g7 ∗ pt c N8 g8 ∗ pt c N9 g9 ∗ pt c N10 g10 ∗ pt c N11 g11 ∗ pt c N12 g12
        ∗ (left c i I s o1 o2 M2 M3 M4 M5 M6 M7 M8 M9 M10 M11 M12 M13 M14 N0 N1 N2 N3 N4 N5 N6 N7 N8 N9 N10 N11 N12 -∗ K ⟨⟩))
      ⊢ wp frame (wpE (defs₀ (F := F)) Variants.none c none) Set.univ
          (cc0_linattn_fused i M2 H2 M3 H3 M4 H4 M5 H5 M6 H6 M7 H7 M8 H8 M9 H9 M10 H10 M11 H11 M12 H12 M13 H13 M14 H14
            N0 J0 N1 J1 N2 J2 N3 J3 N4 J4 N5 J5 N6 J6 N7 J7 N8 J8 N9 J9 N10 J10 N11 J11 N12 J12) K := by
  simp only [cc0_linattn_fused_eq_skeleton]; unfold cc0_linattn_fused_skel
  iintro ⟨M2, M3, M4, M5, M6, M7, M8, M9, M10, M11, M12, M13, M14, G0, G1, G2, G3, G4, G5, G6, G7, G8, G9, G10, G11, G12, Hk⟩
  by_cases h1 : k0_cond1 i = 1#1 <;> by_cases h2 : k0_cond2 i = 1#1 <;> by_cases h3 : k0_cond3 i = 1#1 <;> by_cases h4 : k0_cond4 i = 1#1
  all_goals try first | exact absurd (h12 h1) h2 | exact absurd (h34 h3) h4
  all_goals
    sl_exec_parts
    sl_step
    iapply Hk
    unfold left scrOf
    isplitl [M2]; · iapply (own_intro c M2 H2 _ _ e2); iexact M2
    isplitl [M3]; · iapply (own_intro c M3 H3 _ _ e3); iexact M3
    isplitl [M4]; · iapply (own_intro c M4 H4 _ _ e4); iexact M4
    isplitl [M5]; · iapply (own_intro c M5 H5 _ _ e5); iexact M5
    isplitl [M6]; · iapply (own_intro c M6 H6 _ _ e6); iexact M6
    isplitl [M7]; · iapply (own_intro c M7 H7 _ _ e7); iexact M7
    isplitl [M8]; · iapply (own_intro c M8 H8 _ _ e8); iexact M8
    isplitl [M9]; · iapply (own_intro c M9 H9 _ _ e9); iexact M9
    isplitl [M10]; · iapply (own_intro c M10 H10 _ _ e10); iexact M10
    isplitl [M11]; · iapply (own_intro c M11 H11 _ _ e11); iexact M11
    isplitl [M12]; · iapply (own_intro c M12 H12 _ _ e12); iexact M12
    isplitl [M13]; rotate_left
    isplitl [M14]; rotate_left
    isplitl [G0]; rotate_left
    isplitl [G1]; rotate_left
    isplitl [G2]; rotate_left
    isplitl [G3]; rotate_left
    isplitl [G4]; rotate_left
    isplitl [G5]; rotate_left
    isplitl [G6]; rotate_left
    isplitl [G7]; rotate_left
    isplitl [G8]; rotate_left
    isplitl [G9]; rotate_left
    isplitl [G10]; rotate_left
    isplitl [G11]; rotate_left
    · rw [own_eq c N12 J12]; iexists _; isplitr; rotate_left; · iexact G12
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c M13 H13]; iexists _; isplitr; rotate_left; · iexact M13
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c M14 H14]; iexists _; isplitr; rotate_left; · iexact M14
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N0 J0]; iexists _; isplitr; rotate_left; · iexact G0
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N1 J1]; iexists _; isplitr; rotate_left; · iexact G1
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N2 J2]; iexists _; isplitr; rotate_left; · iexact G2
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N3 J3]; iexists _; isplitr; rotate_left; · iexact G3
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N4 J4]; iexists _; isplitr; rotate_left; · iexact G4
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N5 J5]; iexists _; isplitr; rotate_left; · iexact G5
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N6 J6]; iexists _; isplitr; rotate_left; · iexact G6
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N7 J7]; iexists _; isplitr; rotate_left; · iexact G7
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N8 J8]; iexists _; isplitr; rotate_left; · iexact G8
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N9 J9]; iexists _; isplitr; rotate_left; · iexact G9
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N10 J10]; iexists _; isplitr; rotate_left; · iexact G10
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)
    · rw [own_eq c N11 J11]; iexists _; isplitr; rotate_left; · iexact G11
      ipureintro; sl_unfold_run_names; (try simp (config := {proj := false}) only [View.readAt_full, View.read_writes_full, View.readCov_full]); (try simp (config := {proj := false}) only [readAt_window, read_store, readCov_eq, View.writes_nil]); (try simp (config := {proj := false}) only [off1_eq, off2_eq, off3_eq, VecWindow.window_put_same, VecWindow.put_put_same, e2, e3, e4, e5, e6, e7, e8, e9, e10, e11, e12, e13, e14, d0, d1, d2, d3, d4, d5, d6, d7, d8, d9, d10, d11, d12]); (simp only [outX, outY, step, stM, stA, finish, blockX, blockY, prior, h1, h2, h3, h4, ↓reduceDIte, ↓reduceIte]); first | done | exact congrX ((window_all _ _).trans (put_columns _ _ _)) (weight_0 _ _ _) (weight_1 _ _ _) | exact congrY ((window_all _ _).trans (put_columns _ _ _)) (weight_2 _ _ _) (weight_3 _ _ _) | exact congrX rfl (weight_0 _ _ _) (weight_1 _ _ _) | exact congrY rfl (weight_2 _ _ _) (weight_3 _ _ _) | (with_reducible rfl) | rfl | exact put_columns _ _ _ | (simp only [← put_columns (N12.view.read (Elt F) N12.view.junk)]; rfl)

end Cert.KernelIdeal.Hand
-- ==== Proof.Invariant.lean ====
module

public import proofs.«01_k».proof.Proof.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-!
What the scratch buffers hold between grid points, as a statement about their contents alone: one slot holds the running
sums and the queries of the batch being read, the other those of the batch being written out. `Holds.step` says one grid
point carries the statement on; `out_eq` says what it writes out.
-/

open VecWindow (window put window_put_same window_put_of_disjoint)

variable {F : FTy → Type} [FloatOps F]

/-- A window depends on its offsets through their value alone. -/
theorem window_congr {s : Shape} {α : Type} (x : s.Idx → α) {off off' size : Fin s.rank → ℕ} (h : off = off') (inb) (inb') :
    window x off size inb = window x off' size inb' := by subst h; rfl

/-- The six running sums of a batch. -/
structure Acc (F : FTy → Type) where
  mx : Vec F S1x32x256 .f32
  my : Vec F S1x32x256 .f32
  kx : Vec F S1x1x32 .f32
  ky : Vec F S1x1x32 .f32
  xx : Vec F S1x1x256 .f32
  xy : Vec F S1x1x256 .f32

/-- One block added to the running sums. -/
def Acc.add (I : Ins F) (a : Acc F) : Acc F where
  mx := k0_pay15 (k0_pay14 I.x I.wk I.bk a.mx)
  my := k0_pay23 (k0_pay18 I.y) (k0_pay19 I.wky) I.bky a.my
  kx := k0_pay16 (k0_pay12 I.x I.wk I.bk) a.kx
  ky := k0_pay24 (k0_pay18 I.y) (k0_pay19 I.wky) I.bky a.ky
  xx := k0_pay17 (k0_pay11 I.x) a.xx
  xy := k0_pay7 (k0_pay18 I.y) a.xy

/-- A block's normalised queries. -/
def qX (I : Ins F) : Vec F S1x2048x32 .f32 := k0_pay13 I.x I.wq I.bq
def qY (I : Ins F) : Vec F S1x2048x32 .f32 := k0_pay22 (k0_pay20 I.y I.wqy I.bqy)

/-- The weights with a block of rows of either stream. -/
def Ins.at (W : Ins F) (x y : S1x2048x256.Idx → Elt F .f32) : Ins F := { W with x := x, y := y }

/-- A batch's running sums after its first `j` blocks. -/
def sums (W : Ins F) (x y : ℕ → S1x2048x256.Idx → Elt F .f32) : ℕ → Acc F
  | 0 => ⟨k0_pay1, k0_pay2, k0_pay3, k0_pay4, k0_pay5, k0_pay6⟩
  | j + 1 => Acc.add (W.at (x j) (y j)) (sums W x y j)

theorem inbQ (p j : ℕ) (hp : p < 2) (hj : j < 8) (a) : (![p, 2048 * j, 0] : Fin 3 → ℕ) a + S1x2048x32.size a ≤ S2x16384x32.size a :=
  match a with
  | 0 => by show p + 1 ≤ 2; omega
  | 1 => by show 2048 * j + 2048 ≤ 16384; omega
  | 2 => le_refl 32
theorem inbM (p : ℕ) (hp : p < 2) (a) : (![p, 0, 0] : Fin 3 → ℕ) a + S1x32x256.size a ≤ S2x32x256.size a :=
  match a with
  | 0 => by show p + 1 ≤ 2; omega
  | 1 => le_refl 32
  | 2 => le_refl 256
theorem inbK (p : ℕ) (hp : p < 2) (a) : (![p, 0, 0] : Fin 3 → ℕ) a + S1x1x32.size a ≤ S2x1x32.size a :=
  match a with
  | 0 => by show p + 1 ≤ 2; omega
  | 1 => le_refl 1
  | 2 => le_refl 32
theorem inbX (p : ℕ) (hp : p < 2) (a) : (![p, 0, 0] : Fin 3 → ℕ) a + S1x1x256.size a ≤ S2x1x256.size a :=
  match a with
  | 0 => by show p + 1 ≤ 2; omega
  | 1 => le_refl 1
  | 2 => le_refl 256

/-- The sums held in a slot. -/
def accAt (s : St F) (p : ℕ) (hp : p < 2) : Acc F where
  mx := window s.mx ![p, 0, 0] S1x32x256.size (inbM p hp)
  my := window s.my ![p, 0, 0] S1x32x256.size (inbM p hp)
  kx := window s.kx ![p, 0, 0] S1x1x32.size (inbK p hp)
  ky := window s.ky ![p, 0, 0] S1x1x32.size (inbK p hp)
  xx := window s.xx ![p, 0, 0] S1x1x256.size (inbX p hp)
  xy := window s.xy ![p, 0, 0] S1x1x256.size (inbX p hp)

/-- A slot holds a batch's first `j` blocks: their queries and, once there is one, their sums. -/
def Half (W : Ins F) (x y : ℕ → S1x2048x256.Idx → Elt F .f32) (s : St F) (p : ℕ) (hp : p < 2) (j : ℕ) : Prop :=
  (∀ k (hk : k < 8), k < j → window s.qx ![p, 2048 * k, 0] S1x2048x32.size (inbQ p k hp hk) = qX (W.at (x k) (y k))
    ∧ window s.qy ![p, 2048 * k, 0] S1x2048x32.size (inbQ p k hp hk) = qY (W.at (x k) (y k)))
  ∧ (0 < j → accAt s p hp = sums W x y j)

/-- The finished sums of a batch are in place. -/
def Ready (I : Ins F) (a : Acc F) (s : St F) : Prop := finish I s a.kx a.ky a.mx a.my a.xx a.xy = s

/-- The slot of a batch, and the other one. -/
theorem slot_lt (g : ℕ) : g % 2 < 2 := Nat.mod_lt _ (by omega)

/-- What the scratch buffers hold before block `j` of batch `g` is read (and block `j` of batch `g - 1` written). -/
def Holds (W : Ins F) (X Y : ℕ → ℕ → S1x2048x256.Idx → Elt F .f32) (g j : ℕ) (s : St F) : Prop :=
  (g < 8 → Half W (X g) (Y g) s (g % 2) (slot_lt _) j)
  ∧ (0 < g → g ≤ 8 → Half W (X (g - 1)) (Y (g - 1)) s ((g - 1) % 2) (slot_lt _) 8
      ∧ (0 < j → Ready W (sums W (X (g - 1)) (Y (g - 1)) 8) s))

/-- The grid point at which block `j` of batch `g` is read, and block `j` of batch `g - 1` written. -/
structure At (i : grid0.Coords) (g j : ℕ) : Prop where
  hg : g ≤ 8
  hj : j < 8
  c1 : k0_cond1 i = 1#1 ↔ g < 8 ∧ j = 0
  c2 : k0_cond2 i = 1#1 ↔ g < 8
  c3 : k0_cond3 i = 1#1 ↔ 0 < g ∧ j = 0
  c4 : k0_cond4 i = 1#1 ↔ 0 < g
  o4 : g < 8 → k0_off4 i = ![g % 2, 2048 * j, 0]
  o5 : g < 8 → k0_off5 i = ![g % 2, 0, 0]
  o6 : g < 8 → k0_off6 i = ![g % 2, 0, 0]
  o7 : g < 8 → k0_off7 i = ![g % 2, 0, 0]
  o8 : 0 < g → k0_off8 i = ![(g - 1) % 2, 0, 0]
  o9 : 0 < g → k0_off9 i = ![(g - 1) % 2, 0, 0]
  o10 : 0 < g → k0_off10 i = ![(g - 1) % 2, 0, 0]
  o11 : 0 < g → k0_off11 i = ![(g - 1) % 2, 2048 * j, 0]

variable {W : Ins F} {X Y : ℕ → ℕ → S1x2048x256.Idx → Elt F .f32} {g j : ℕ} {i : grid0.Coords} {s : St F}

theorem put_congr {s : Shape} {α : Type} (x : s.Idx → α) {off off' size : Fin s.rank → ℕ} (h : off = off') (w) :
    put x off size w = put x off' size w := by subst h; rfl

/-- What a point of the reading phase leaves in its slot. -/
theorem Half.read (h : At i g j) (hg : g < 8) (I : Ins F) (hI : I = W.at (X g j) (Y g j)) (hs : Half W (X g) (Y g) s (g % 2) (slot_lt _) j) :
    Half W (X g) (Y g) (stA i I s) (g % 2) (slot_lt _) (j + 1) := by
  have h2 : k0_cond2 i = 1#1 := h.c2.mpr hg
  unfold stA
  rw [dif_pos h2]
  refine ⟨fun k hk hkj => ?_, fun _ => ?_⟩
  · rcases Nat.lt_or_eq_of_le (Nat.le_of_lt_succ hkj) with hlt | rfl
    · refine ⟨?_, ?_⟩
      · refine ((congrArg (fun z => window z _ _ (inbQ (g % 2) k (slot_lt _) hk)) (put_congr s.qx (h.o4 hg) _)).trans
          (window_put_of_disjoint s.qx _ S1x2048x32.size _ _ _ _ 1 (Or.inl ?_))).trans (hs.1 k hk hlt).1
        show 2048 * k + 2048 ≤ 2048 * j; omega
      · refine ((congrArg (fun z => window z _ _ (inbQ (g % 2) k (slot_lt _) hk)) (put_congr s.qy (h.o4 hg) _)).trans
          (window_put_of_disjoint s.qy _ S1x2048x32.size _ _ _ _ 1 (Or.inl ?_))).trans (hs.1 k hk hlt).2
        show 2048 * k + 2048 ≤ 2048 * j; omega
    · subst hI
      exact ⟨(congrArg (fun z => window z _ _ (inbQ (g % 2) k (slot_lt _) hk)) (put_congr s.qx (h.o4 hg) _)).trans (window_put_same _ _ _ _ _),
        (congrArg (fun z => window z _ _ (inbQ (g % 2) k (slot_lt _) hk)) (put_congr s.qy (h.o4 hg) _)).trans (window_put_same _ _ _ _ _)⟩
  · subst hI
    have hp : ∀ {T : Shape} (z x w : T.Idx → Elt F .f32), (j = 0 → z = w) → (0 < j → x = w) → prior i z x = w := fun z x w h0 h1 => by
      unfold prior
      by_cases hj : j = 0
      · rw [if_pos (h.c1.mpr ⟨hg, hj⟩)]; exact h0 hj
      · rw [if_neg (fun hc => hj (h.c1.mp hc).2)]; exact h1 (Nat.pos_of_ne_zero hj)
    have hz : j = 0 → sums W (X g) (Y g) j = ⟨k0_pay1, k0_pay2, k0_pay3, k0_pay4, k0_pay5, k0_pay6⟩ := fun h => by subst h; rfl
    have ha := hs.2
    have p1 : prior i k0_pay1 (window s.mx (k0_off5 i) S1x32x256.size (k0_off5_inb i h2)) = (sums W (X g) (Y g) j).mx :=
      hp _ _ _ (fun h0 => by rw [hz h0]) fun h0 => (window_congr s.mx (h.o5 hg) _ _).trans (congrArg Acc.mx (ha h0))
    have p2 : prior i k0_pay2 (window s.my (k0_off5 i) S1x32x256.size (k0_off5_inb i h2)) = (sums W (X g) (Y g) j).my :=
      hp _ _ _ (fun h0 => by rw [hz h0]) fun h0 => (window_congr s.my (h.o5 hg) _ _).trans (congrArg Acc.my (ha h0))
    have p3 : prior i k0_pay3 (window s.kx (k0_off6 i) S1x1x32.size (k0_off6_inb i h2)) = (sums W (X g) (Y g) j).kx :=
      hp _ _ _ (fun h0 => by rw [hz h0]) fun h0 => (window_congr s.kx (h.o6 hg) _ _).trans (congrArg Acc.kx (ha h0))
    have p4 : prior i k0_pay4 (window s.ky (k0_off6 i) S1x1x32.size (k0_off6_inb i h2)) = (sums W (X g) (Y g) j).ky :=
      hp _ _ _ (fun h0 => by rw [hz h0]) fun h0 => (window_congr s.ky (h.o6 hg) _ _).trans (congrArg Acc.ky (ha h0))
    have p5 : prior i k0_pay5 (window s.xx (k0_off7 i) S1x1x256.size (k0_off7_inb i h2)) = (sums W (X g) (Y g) j).xx :=
      hp _ _ _ (fun h0 => by rw [hz h0]) fun h0 => (window_congr s.xx (h.o7 hg) _ _).trans (congrArg Acc.xx (ha h0))
    have p6 : prior i k0_pay6 (window s.xy (k0_off7 i) S1x1x256.size (k0_off7_inb i h2)) = (sums W (X g) (Y g) j).xy :=
      hp _ _ _ (fun h0 => by rw [hz h0]) fun h0 => (window_congr s.xy (h.o7 hg) _ _).trans (congrArg Acc.xy (ha h0))
    rw [p1, p2, p3, p4, p5, p6]
    show accAt _ _ _ = Acc.add _ (sums W (X g) (Y g) j)
    unfold accAt Acc.add
    congr 1
    · exact (congrArg (fun z => window z _ _ (inbM (g % 2) (slot_lt _))) (put_congr s.mx (h.o5 hg) _)).trans (window_put_same _ _ _ _ _)
    · exact (congrArg (fun z => window z _ _ (inbM (g % 2) (slot_lt _))) (put_congr s.my (h.o5 hg) _)).trans (window_put_same _ _ _ _ _)
    · exact (congrArg (fun z => window z _ _ (inbK (g % 2) (slot_lt _))) (put_congr s.kx (h.o6 hg) _)).trans (window_put_same _ _ _ _ _)
    · exact (congrArg (fun z => window z _ _ (inbK (g % 2) (slot_lt _))) (put_congr s.ky (h.o6 hg) _)).trans (window_put_same _ _ _ _ _)
    · exact (congrArg (fun z => window z _ _ (inbX (g % 2) (slot_lt _))) (put_congr s.xx (h.o7 hg) _)).trans (window_put_same _ _ _ _ _)
    · exact (congrArg (fun z => window z _ _ (inbX (g % 2) (slot_lt _))) (put_congr s.xy (h.o7 hg) _)).trans (window_put_same _ _ _ _ _)

/-- A point of the reading phase leaves the other slot alone. -/
theorem Half.other (h : At i g j) {x y} {p : ℕ} {hp : p < 2} (hpg : p ≠ g % 2) (I : Ins F) {n : ℕ} (hs : Half W x y s p hp n) :
    Half W x y (stA i I s) p hp n := by
  unfold stA
  by_cases h2 : k0_cond2 i = 1#1
  · have hg : g < 8 := h.c2.mp h2
    have hd : p + 1 ≤ g % 2 ∨ g % 2 + 1 ≤ p := by have := slot_lt g; omega
    rw [dif_pos h2]
    refine ⟨fun k hk hkn => ⟨?_, ?_⟩, fun hn => ?_⟩
    · exact ((congrArg (fun z => window z _ _ (inbQ p k hp hk)) (put_congr s.qx (h.o4 hg) _)).trans
        (window_put_of_disjoint s.qx _ S1x2048x32.size _ _ _ _ 0 hd)).trans (hs.1 k hk hkn).1
    · exact ((congrArg (fun z => window z _ _ (inbQ p k hp hk)) (put_congr s.qy (h.o4 hg) _)).trans
        (window_put_of_disjoint s.qy _ S1x2048x32.size _ _ _ _ 0 hd)).trans (hs.1 k hk hkn).2
    · rw [← hs.2 hn]
      unfold accAt
      congr 1
      · exact (congrArg (fun z => window z _ _ (inbM p hp)) (put_congr s.mx (h.o5 hg) _)).trans (window_put_of_disjoint s.mx _ S1x32x256.size _ _ _ _ 0 hd)
      · exact (congrArg (fun z => window z _ _ (inbM p hp)) (put_congr s.my (h.o5 hg) _)).trans (window_put_of_disjoint s.my _ S1x32x256.size _ _ _ _ 0 hd)
      · exact (congrArg (fun z => window z _ _ (inbK p hp)) (put_congr s.kx (h.o6 hg) _)).trans (window_put_of_disjoint s.kx _ S1x1x32.size _ _ _ _ 0 hd)
      · exact (congrArg (fun z => window z _ _ (inbK p hp)) (put_congr s.ky (h.o6 hg) _)).trans (window_put_of_disjoint s.ky _ S1x1x32.size _ _ _ _ 0 hd)
      · exact (congrArg (fun z => window z _ _ (inbX p hp)) (put_congr s.xx (h.o7 hg) _)).trans (window_put_of_disjoint s.xx _ S1x1x256.size _ _ _ _ 0 hd)
      · exact (congrArg (fun z => window z _ _ (inbX p hp)) (put_congr s.xy (h.o7 hg) _)).trans (window_put_of_disjoint s.xy _ S1x1x256.size _ _ _ _ 0 hd)
  · rw [dif_neg h2]; exact hs

/-- The finishing phase leaves both slots alone. -/
theorem Half.finished {x y} {p : ℕ} {hp : p < 2} (I : Ins F) {n : ℕ} (hs : Half W x y s p hp n) : Half W x y (stM i I s) p hp n := by
  unfold stM
  by_cases h3 : k0_cond3 i = 1#1
  · rw [dif_pos h3]; exact hs
  · rw [dif_neg h3]; exact hs

theorem Ready.other {a : Acc F} (I : Ins F) (hs : Ready W a s) : Ready W a (stA i I s) := by
  unfold stA
  by_cases h2 : k0_cond2 i = 1#1
  · rw [dif_pos h2]
    unfold Ready finish at hs ⊢
    have h1 := congrArg St.ax hs
    have h3 := congrArg St.ay hs
    have h4 := congrArg St.vx hs
    have h5 := congrArg St.vy hs
    have h6 := congrArg St.kp hs
    simp only at h1 h3 h4 h5 h6
    rw [h1, h3, h4, h5, h6]
  · rw [dif_neg h2]; exact hs

/-- After the point the finished sums of the batch being written are in place. -/
theorem Ready.made (h : At i g j) (hg : 0 < g) (I : Ins F) (x y) (hI : I = W.at x y) {a : Acc F} (hs : accAt s ((g - 1) % 2) (slot_lt _) = a)
    (hf : 0 < j → Ready W a s) : Ready W a (stM i I s) := by
  unfold stM
  by_cases h3 : k0_cond3 i = 1#1
  · rw [dif_pos h3]
    have e1 := congrArg Acc.kx hs
    have e2 := congrArg Acc.ky hs
    have e3 := congrArg Acc.mx hs
    have e4 := congrArg Acc.my hs
    have e5 := congrArg Acc.xx hs
    have e6 := congrArg Acc.xy hs
    rw [(window_congr s.kx (h.o8 hg) _ (inbK _ (slot_lt _))).trans e1, (window_congr s.ky (h.o8 hg) _ (inbK _ (slot_lt _))).trans e2,
      (window_congr s.mx (h.o9 hg) _ (inbM _ (slot_lt _))).trans e3, (window_congr s.my (h.o9 hg) _ (inbM _ (slot_lt _))).trans e4,
      (window_congr s.xx (h.o10 hg) _ (inbX _ (slot_lt _))).trans e5, (window_congr s.xy (h.o10 hg) _ (inbX _ (slot_lt _))).trans e6]
    subst hI
    rfl
  · rw [dif_neg h3]
    exact hf (Nat.pos_of_ne_zero fun h0 => h3 (h.c3.mpr ⟨hg, h0⟩))

/-- One grid point carries the statement on. -/
theorem Holds.step (h : At i g j) (I : Ins F) {x y} (hI : I = W.at x y) (hx : g < 8 → x = X g j ∧ y = Y g j) (hs : Holds W X Y g j s) :
    Holds W X Y g (j + 1) (step i I s) := by
  refine ⟨fun hg => ?_, fun hg hg8 => ?_⟩
  · have := hx hg
    exact ((hs.1 hg).read h hg I (by rw [hI, this.1, this.2])).finished I
  · have hne : (g - 1) % 2 ≠ g % 2 := by omega
    have h1 := ((hs.2 hg hg8).1.other h hne I)
    exact ⟨h1.finished I, fun _ => Ready.made h hg I x y hI (h1.2 (by omega)) fun hj => ((hs.2 hg hg8).2 hj).other I⟩

/-- A batch read whole becomes the batch to be written. -/
theorem Holds.turn (hs : Holds W X Y g 8 s) : Holds W X Y (g + 1) 0 s :=
  ⟨fun _ => ⟨fun k hk h => absurd h (by omega), fun h => absurd h (by omega)⟩,
    fun _ hg => ⟨hs.1 (by omega), fun h => absurd h (by omega)⟩⟩

/-- The finished sums of a batch, over any contents of the other buffers. -/
def done (W : Ins F) (x y : ℕ → S1x2048x256.Idx → Elt F .f32) (s : St F) : St F :=
  finish W s (sums W x y 8).kx (sums W x y 8).ky (sums W x y 8).mx (sums W x y 8).my (sums W x y 8).xx (sums W x y 8).xy

/-- Some contents: nothing depends on them. -/
def blank : St F :=
  ⟨fun _ => rows, fun _ => rows, fun _ => rows, fun _ => rows, fun _ => rows, fun _ => rows, fun _ => rows, fun _ => rows, fun _ => rows, fun _ => rows, fun _ => rows, fun _ => rows, fun _ => rows⟩

/-- Block `j` of a batch's first result. -/
def resX (W : Ins F) (x y : ℕ → S1x2048x256.Idx → Elt F .f32) (j : ℕ) : S1x2048x256.Idx → Elt F .f32 :=
  blockX W (done W x y blank) (qX (W.at (x j) (y j)))
/-- Block `j` of a batch's second result. -/
def resY (W : Ins F) (x y : ℕ → S1x2048x256.Idx → Elt F .f32) (j : ℕ) : S1x2048x256.Idx → Elt F .f32 :=
  blockY W (done W x y blank) (qY (W.at (x j) (y j)))

/-- What a point writes out, once there is a batch to write. -/
theorem out_eq (h : At i g j) (hg : 0 < g) (I : Ins F) {x y} (hI : I = W.at x y) (hs : Holds W X Y g (j + 1) s) (o1 o2) :
    outX i I s o1 = resX W (X (g - 1)) (Y (g - 1)) j ∧ outY i I s o2 = resY W (X (g - 1)) (Y (g - 1)) j := by
  have h4 : k0_cond4 i = 1#1 := h.c4.mpr hg
  obtain ⟨hh, hf⟩ := hs.2 hg h.hg
  have hf := hf (by omega)
  have hq := hh.1 j h.hj h.hj
  unfold outX outY
  rw [dif_pos h4, dif_pos h4, (window_congr s.qx (h.o11 hg) _ (inbQ _ j (slot_lt _) h.hj)).trans hq.1,
    (window_congr s.qy (h.o11 hg) _ (inbQ _ j (slot_lt _) h.hj)).trans hq.2, ← hf, hI]
  exact ⟨rfl, rfl⟩

end Cert.KernelIdeal.Hand
-- ==== Proof.Run.lean ====
module

public import proofs.«01_k».proof.Proof.Body
public import proofs.«01_k».proof.Proof.Invariant
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-!
The kernel run whole: the statement carried between grid points, each point's obligation, and the launch. After the run each
result's array holds, block by block, what `resX` and `resY` name.
-/

variable {F : FTy → Type} [FloatOps F]
local notation "𝕄" => MT nD τ sig Unit (Elt F) ℕ (UR sig nD τ) ℕ

set_option maxHeartbeats 4000000 in
/-- The body at one grid point, over the contents of its buffers. -/
theorem body_run (c : Dev nD) (i : grid0.Coords) (h12 : k0_cond1 i = 1#1 → k0_cond2 i = 1#1) (h34 : k0_cond3 i = 1#1 → k0_cond4 i = 1#1)
    (M2 : Memref sig .tc .vmem S1x2048x256 .f32) (H2 : M2.IsWhole)
    (M3 : Memref sig .tc .vmem S1x2048x256 .f32) (H3 : M3.IsWhole)
    (M4 : Memref sig .tc .vmem S64x256 .f32) (H4 : M4.IsWhole)
    (M5 : Memref sig .tc .vmem S1x64 .f32) (H5 : M5.IsWhole)
    (M6 : Memref sig .tc .vmem S64x256 .f32) (H6 : M6.IsWhole)
    (M7 : Memref sig .tc .vmem S1x64 .f32) (H7 : M7.IsWhole)
    (M8 : Memref sig .tc .vmem S256x256 .f32) (H8 : M8.IsWhole)
    (M9 : Memref sig .tc .vmem S1x256 .f32) (H9 : M9.IsWhole)
    (M10 : Memref sig .tc .vmem S256x256 .f32) (H10 : M10.IsWhole)
    (M11 : Memref sig .tc .vmem S1x256 .f32) (H11 : M11.IsWhole)
    (M12 : Memref sig .tc .smem S4 .f32) (H12 : M12.IsWhole)
    (M13 : Memref sig .tc .vmem S1x2048x256 .f32) (H13 : M13.IsWhole)
    (M14 : Memref sig .tc .vmem S1x2048x256 .f32) (H14 : M14.IsWhole)
    (N0 : Memref sig .tc .vmem S2x16384x32 .f32) (J0 : N0.IsWhole)
    (N1 : Memref sig .tc .vmem S2x16384x32 .f32) (J1 : N1.IsWhole)
    (N2 : Memref sig .tc .vmem S2x32x256 .f32) (J2 : N2.IsWhole)
    (N3 : Memref sig .tc .vmem S2x32x256 .f32) (J3 : N3.IsWhole)
    (N4 : Memref sig .tc .vmem S2x1x32 .f32) (J4 : N4.IsWhole)
    (N5 : Memref sig .tc .vmem S2x1x32 .f32) (J5 : N5.IsWhole)
    (N6 : Memref sig .tc .vmem S2x1x256 .f32) (J6 : N6.IsWhole)
    (N7 : Memref sig .tc .vmem S2x1x256 .f32) (J7 : N7.IsWhole)
    (N8 : Memref sig .tc .vmem S32x512 .f32) (J8 : N8.IsWhole)
    (N9 : Memref sig .tc .vmem S32x512 .f32) (J9 : N9.IsWhole)
    (N10 : Memref sig .tc .vmem S1x256 .f32) (J10 : N10.IsWhole)
    (N11 : Memref sig .tc .vmem S1x256 .f32) (J11 : N11.IsWhole)
    (N12 : Memref sig .tc .vmem S32x2 .f32) (J12 : N12.IsWhole)
    (I : Ins F) (s : St F) (o1 o2 : S1x2048x256.Idx → Elt F .f32) (K : PUnit → sProp 𝕄) :
    iprop(own c M2 I.x ∗ own c M3 I.y ∗ own c M4 I.wqk ∗ own c M5 I.bqk ∗ own c M6 I.wqky ∗ own c M7 I.bqky ∗ own c M8 I.wv ∗ own c M9 I.bv ∗ own c M10 I.wvy ∗ own c M11 I.bvy ∗ own c M12 I.s ∗ own c M13 o1 ∗ own c M14 o2 ∗ scrOf c s N0 N1 N2 N3 N4 N5 N6 N7 N8 N9 N10 N11 N12
        ∗ (left c i I s o1 o2 M2 M3 M4 M5 M6 M7 M8 M9 M10 M11 M12 M13 M14 N0 N1 N2 N3 N4 N5 N6 N7 N8 N9 N10 N11 N12 -∗ K ⟨⟩))
      ⊢ wp frame (wpE (defs₀ (F := F)) Variants.none c none) Set.univ
          (cc0_linattn_fused i M2 H2 M3 H3 M4 H4 M5 H5 M6 H6 M7 H7 M8 H8 M9 H9 M10 H10 M11 H11 M12 H12 M13 H13 M14 H14
            N0 J0 N1 J1 N2 J2 N3 J3 N4 J4 N5 J5 N6 J6 N7 J7 N8 J8 N9 J9 N10 J10 N11 J11 N12 J12) K := by
  unfold scrOf
  rw [own_eq c M2 H2]; rw [own_eq c M3 H3]; rw [own_eq c M4 H4]; rw [own_eq c M5 H5]; rw [own_eq c M6 H6]; rw [own_eq c M7 H7]; rw [own_eq c M8 H8]; rw [own_eq c M9 H9]; rw [own_eq c M10 H10]; rw [own_eq c M11 H11]; rw [own_eq c M12 H12]; rw [own_eq c M13 H13]; rw [own_eq c M14 H14]
  rw [own_eq c N0 J0]; rw [own_eq c N1 J1]; rw [own_eq c N2 J2]; rw [own_eq c N3 J3]; rw [own_eq c N4 J4]; rw [own_eq c N5 J5]; rw [own_eq c N6 J6]; rw [own_eq c N7 J7]; rw [own_eq c N8 J8]; rw [own_eq c N9 J9]; rw [own_eq c N10 J10]; rw [own_eq c N11 J11]; rw [own_eq c N12 J12]
  iintro ⟨⟨%f2, %e2, M2⟩, ⟨%f3, %e3, M3⟩, ⟨%f4, %e4, M4⟩, ⟨%f5, %e5, M5⟩, ⟨%f6, %e6, M6⟩, ⟨%f7, %e7, M7⟩, ⟨%f8, %e8, M8⟩, ⟨%f9, %e9, M9⟩, ⟨%f10, %e10, M10⟩, ⟨%f11, %e11, M11⟩, ⟨%f12, %e12, M12⟩, ⟨%f13, %e13, M13⟩, ⟨%f14, %e14, M14⟩, ⟨⟨%g0, %d0, G0⟩, ⟨%g1, %d1, G1⟩, ⟨%g2, %d2, G2⟩, ⟨%g3, %d3, G3⟩, ⟨%g4, %d4, G4⟩, ⟨%g5, %d5, G5⟩, ⟨%g6, %d6, G6⟩, ⟨%g7, %d7, G7⟩, ⟨%g8, %d8, G8⟩, ⟨%g9, %d9, G9⟩, ⟨%g10, %d10, G10⟩, ⟨%g11, %d11, G11⟩, ⟨%g12, %d12, G12⟩⟩, Hk⟩
  iapply (body_raw c i h12 h34 M2 H2 M3 H3 M4 H4 M5 H5 M6 H6 M7 H7 M8 H8 M9 H9 M10 H10 M11 H11 M12 H12 M13 H13 M14 H14
    N0 J0 N1 J1 N2 J2 N3 J3 N4 J4 N5 J5 N6 J6 N7 J7 N8 J8 N9 J9 N10 J10 N11 J11 N12 J12
    f2 f3 f4 f5 f6 f7 f8 f9 f10 f11 f12 f13 f14 g0 g1 g2 g3 g4 g5 g6 g7 g8 g9 g10 g11 g12 I s o1 o2 e2 e3 e4 e5 e6 e7 e8 e9 e10 e11 e12 e13 e14 d0 d1 d2 d3 d4 d5 d6 d7 d8 d9 d10 d11 d12 K)
  isplitl [M2]; · iexact M2
  isplitl [M3]; · iexact M3
  isplitl [M4]; · iexact M4
  isplitl [M5]; · iexact M5
  isplitl [M6]; · iexact M6
  isplitl [M7]; · iexact M7
  isplitl [M8]; · iexact M8
  isplitl [M9]; · iexact M9
  isplitl [M10]; · iexact M10
  isplitl [M11]; · iexact M11
  isplitl [M12]; · iexact M12
  isplitl [M13]; · iexact M13
  isplitl [M14]; · iexact M14
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  iexact Hk

end Cert.KernelIdeal.Hand
-- ==== Proof.Launch.lean ====
module

public import proofs.«01_k».proof.Proof.Run
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-!
The launch: the inputs' blocks, the statement carried between points as an invariant, each point's obligation, and the whole
program's run. After the run each result's array holds, block by block, what `resX` and `resY` name.
-/

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The blocks the body reads at a point. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t⟩

theorem pos : 0 < cfg0.N := by decide

/-- The point that reads block `j` of batch `g`. -/
def pnt (g j : ℕ) : Fin cfg0.N := ⟨min (8 * g + j) 71, by show _ < grid0.N; rw [N_0]; omega⟩

/-- The weights: the same blocks at every point. -/
def wts (c : Dev nD) : Ins F := ins m c (pnt 0 0)

/-- Block `j` of batch `g` of either stream. -/
def blkX (c : Dev nD) (g j : ℕ) : S1x2048x256.Idx → Elt F .f32 := iblk m c 0 (pnt g j)
def blkY (c : Dev nD) (g j : ℕ) : S1x2048x256.Idx → Elt F .f32 := iblk m c 1 (pnt g j)

/-- The weights do not move with the point. -/
theorem iblk_2 (c : Dev nD) (t t' : Fin cfg0.N) : iblk m c 2 t = iblk m c 2 t' := rfl
theorem iblk_3 (c : Dev nD) (t t' : Fin cfg0.N) : iblk m c 3 t = iblk m c 3 t' := rfl
theorem iblk_4 (c : Dev nD) (t t' : Fin cfg0.N) : iblk m c 4 t = iblk m c 4 t' := rfl
theorem iblk_5 (c : Dev nD) (t t' : Fin cfg0.N) : iblk m c 5 t = iblk m c 5 t' := rfl
theorem iblk_6 (c : Dev nD) (t t' : Fin cfg0.N) : iblk m c 6 t = iblk m c 6 t' := rfl
theorem iblk_7 (c : Dev nD) (t t' : Fin cfg0.N) : iblk m c 7 t = iblk m c 7 t' := rfl
theorem iblk_8 (c : Dev nD) (t t' : Fin cfg0.N) : iblk m c 8 t = iblk m c 8 t' := rfl
theorem iblk_9 (c : Dev nD) (t t' : Fin cfg0.N) : iblk m c 9 t = iblk m c 9 t' := rfl
theorem iblk_10 (c : Dev nD) (t t' : Fin cfg0.N) : iblk m c 10 t = iblk m c 10 t' := rfl
theorem ins_eq (c : Dev nD) (t : Fin cfg0.N) : ins m c t = (wts m c).at (iblk m c 0 t) (iblk m c 1 t) := by
  unfold wts Ins.at ins
  rw [iblk_2 m c t (pnt 0 0), iblk_3 m c t (pnt 0 0), iblk_4 m c t (pnt 0 0), iblk_5 m c t (pnt 0 0), iblk_6 m c t (pnt 0 0), iblk_7 m c t (pnt 0 0), iblk_8 m c t (pnt 0 0), iblk_9 m c t (pnt 0 0), iblk_10 m c t (pnt 0 0)]

theorem lt72 (t : Fin cfg0.N) : t.val < 72 := t.isLt.trans_eq N_0

theorem pnt_eq (t : Fin cfg0.N) (h : t.val / 8 < 8) : pnt (t.val / 8) (t.val % 8) = t :=
  Fin.ext (by show min _ _ = _; have := lt72 t; omega)

/-- Which point does what, over all the points. -/
theorem at_point (t : Fin cfg0.N) : At (grid0.coords t) (t.val / 8) (t.val % 8) where
  hg := by have := lt72 t; omega
  hj := Nat.mod_lt _ (by omega)
  c1 := (by decide +kernel : ∀ t : Fin grid0.N, (k0_cond1 (grid0.coords t) = 1#1 ↔ t.val / 8 < 8 ∧ t.val % 8 = 0)) t
  c2 := (by decide +kernel : ∀ t : Fin grid0.N, (k0_cond2 (grid0.coords t) = 1#1 ↔ t.val / 8 < 8)) t
  c3 := (by decide +kernel : ∀ t : Fin grid0.N, (k0_cond3 (grid0.coords t) = 1#1 ↔ 0 < t.val / 8 ∧ t.val % 8 = 0)) t
  c4 := (by decide +kernel : ∀ t : Fin grid0.N, (k0_cond4 (grid0.coords t) = 1#1 ↔ 0 < t.val / 8)) t
  o4 := (by decide +kernel : ∀ t : Fin grid0.N, t.val / 8 < 8 → k0_off4 (grid0.coords t) = ![t.val / 8 % 2, 2048 * (t.val % 8), 0]) t
  o5 := (by decide +kernel : ∀ t : Fin grid0.N, t.val / 8 < 8 → k0_off5 (grid0.coords t) = ![t.val / 8 % 2, 0, 0]) t
  o6 := (by decide +kernel : ∀ t : Fin grid0.N, t.val / 8 < 8 → k0_off6 (grid0.coords t) = ![t.val / 8 % 2, 0, 0]) t
  o7 := (by decide +kernel : ∀ t : Fin grid0.N, t.val / 8 < 8 → k0_off7 (grid0.coords t) = ![t.val / 8 % 2, 0, 0]) t
  o8 := (by decide +kernel : ∀ t : Fin grid0.N, 0 < t.val / 8 → k0_off8 (grid0.coords t) = ![(t.val / 8 - 1) % 2, 0, 0]) t
  o9 := (by decide +kernel : ∀ t : Fin grid0.N, 0 < t.val / 8 → k0_off9 (grid0.coords t) = ![(t.val / 8 - 1) % 2, 0, 0]) t
  o10 := (by decide +kernel : ∀ t : Fin grid0.N, 0 < t.val / 8 → k0_off10 (grid0.coords t) = ![(t.val / 8 - 1) % 2, 0, 0]) t
  o11 := (by decide +kernel : ∀ t : Fin grid0.N, 0 < t.val / 8 → k0_off11 (grid0.coords t) = ![(t.val / 8 - 1) % 2, 2048 * (t.val % 8), 0]) t

/-- The statement before point `n`, of the scratch buffers' contents. -/
def Before (c : Dev nD) (n : ℕ) (s : St F) : Prop := Holds (wts m c) (blkX m c) (blkY m c) (n / 8) (n % 8) s

/-- One point carries it on. -/
theorem Before.step {c : Dev nD} {t : Fin cfg0.N} {s : St F} (h : Before m c t.val s) :
    Holds (wts m c) (blkX m c) (blkY m c) (t.val / 8) (t.val % 8 + 1) (step (grid0.coords t) (ins m c t) s) :=
  Holds.step (at_point t) (ins m c t) (ins_eq m c t) (fun hg => by
    unfold blkX blkY; rw [pnt_eq t hg]; exact ⟨rfl, rfl⟩) h

theorem Before.next {c : Dev nD} {n : ℕ} {s : St F} (h : Holds (wts m c) (blkX m c) (blkY m c) (n / 8) (n % 8 + 1) s) : Before m c (n + 1) s := by
  unfold Before
  by_cases hj : n % 8 = 7
  · have h1 : (n + 1) / 8 = n / 8 + 1 := by omega
    have h2 : (n + 1) % 8 = 0 := by omega
    rw [h1, h2]
    rw [hj] at h
    exact h.turn
  · have h1 : (n + 1) / 8 = n / 8 := by omega
    have h2 : (n + 1) % 8 = n % 8 + 1 := by omega
    rw [h1, h2]
    exact h

/-- Before the first point anything holds it. -/
theorem Before.first (c : Dev nD) (s : St F) : Before m c 0 s :=
  ⟨fun _ => ⟨fun k _ h => absurd h (Nat.not_lt_zero _), fun h => absurd h (Nat.not_lt_zero _)⟩, fun h => absurd h (Nat.not_lt_zero _)⟩

/-- The loop's invariant before point `n`. -/
def inv (c : Dev nD) (n : ℕ) : sProp 𝕄 := iprop(∃ s, ⌜Before m c n s⌝ ∗ scr c s ∗ ∃ r, prngReg c r)

/-- The proof data: the arrays as the region finds them, each input's block left as found, the results' blocks named. -/
def dats (_p : Fin 1) (c : Dev nD) : Dat τ (Elt F) Unit ℕ (UR sig nD τ) ℕ cfg0 c where
  A w := V m c (Pipeline.arrRef spec0 w)
  after := fun w t => match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => resX (wts m c) (blkX m c (t.val / 8 - 1)) (blkY m c (t.val / 8 - 1)) (t.val % 8)
    | 12 => resY (wts m c) (blkX m c (t.val / 8 - 1)) (blkY m c (t.val / 8 - 1)) (t.val % 8)
    | ⟨_ + 13, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by unfold dats; rfl
theorem after_0 (c : Dev nD) (t : Fin cfg0.N) : (dats m 0 c).after 0 t = iblk m c 0 t := by unfold dats; rfl
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = iblk m c 1 t := by unfold dats; rfl
theorem before_1 (c : Dev nD) (t : Fin cfg0.N) (d) : (dats m 0 c).before 1 t d = iblk m c 1 t := before0_1_of m (dats m 0 c) (A_eq m c 1) (after_1 m c) t d
theorem after_2 (c : Dev nD) (t : Fin cfg0.N) : (dats m 0 c).after 2 t = iblk m c 2 t := by unfold dats; rfl
theorem before_2 (c : Dev nD) (t : Fin cfg0.N) (d) : (dats m 0 c).before 2 t d = iblk m c 2 t := before0_2_of m (dats m 0 c) (A_eq m c 2) (after_2 m c) t d
theorem after_3 (c : Dev nD) (t : Fin cfg0.N) : (dats m 0 c).after 3 t = iblk m c 3 t := by unfold dats; rfl
theorem before_3 (c : Dev nD) (t : Fin cfg0.N) (d) : (dats m 0 c).before 3 t d = iblk m c 3 t := before0_3_of m (dats m 0 c) (A_eq m c 3) (after_3 m c) t d
theorem after_4 (c : Dev nD) (t : Fin cfg0.N) : (dats m 0 c).after 4 t = iblk m c 4 t := by unfold dats; rfl
theorem before_4 (c : Dev nD) (t : Fin cfg0.N) (d) : (dats m 0 c).before 4 t d = iblk m c 4 t := before0_4_of m (dats m 0 c) (A_eq m c 4) (after_4 m c) t d
theorem after_5 (c : Dev nD) (t : Fin cfg0.N) : (dats m 0 c).after 5 t = iblk m c 5 t := by unfold dats; rfl
theorem before_5 (c : Dev nD) (t : Fin cfg0.N) (d) : (dats m 0 c).before 5 t d = iblk m c 5 t := before0_5_of m (dats m 0 c) (A_eq m c 5) (after_5 m c) t d
theorem after_6 (c : Dev nD) (t : Fin cfg0.N) : (dats m 0 c).after 6 t = iblk m c 6 t := by unfold dats; rfl
theorem before_6 (c : Dev nD) (t : Fin cfg0.N) (d) : (dats m 0 c).before 6 t d = iblk m c 6 t := before0_6_of m (dats m 0 c) (A_eq m c 6) (after_6 m c) t d
theorem after_7 (c : Dev nD) (t : Fin cfg0.N) : (dats m 0 c).after 7 t = iblk m c 7 t := by unfold dats; rfl
theorem before_7 (c : Dev nD) (t : Fin cfg0.N) (d) : (dats m 0 c).before 7 t d = iblk m c 7 t := before0_7_of m (dats m 0 c) (A_eq m c 7) (after_7 m c) t d
theorem after_8 (c : Dev nD) (t : Fin cfg0.N) : (dats m 0 c).after 8 t = iblk m c 8 t := by unfold dats; rfl
theorem before_8 (c : Dev nD) (t : Fin cfg0.N) (d) : (dats m 0 c).before 8 t d = iblk m c 8 t := before0_8_of m (dats m 0 c) (A_eq m c 8) (after_8 m c) t d
theorem after_9 (c : Dev nD) (t : Fin cfg0.N) : (dats m 0 c).after 9 t = iblk m c 9 t := by unfold dats; rfl
theorem before_9 (c : Dev nD) (t : Fin cfg0.N) (d) : (dats m 0 c).before 9 t d = iblk m c 9 t := before0_9_of m (dats m 0 c) (A_eq m c 9) (after_9 m c) t d
theorem after_10 (c : Dev nD) (t : Fin cfg0.N) : (dats m 0 c).after 10 t = iblk m c 10 t := by unfold dats; rfl
theorem before_10 (c : Dev nD) (t : Fin cfg0.N) (d) : (dats m 0 c).before 10 t d = iblk m c 10 t := before0_10_of m (dats m 0 c) (A_eq m c 10) (after_10 m c) t d
theorem after_11 (c : Dev nD) (t : Fin cfg0.N) : (dats m 0 c).after 11 t = resX (wts m c) (blkX m c (t.val / 8 - 1)) (blkY m c (t.val / 8 - 1)) (t.val % 8) := by unfold dats; rfl
theorem after_12 (c : Dev nD) (t : Fin cfg0.N) : (dats m 0 c).after 12 t = resY (wts m c) (blkX m c (t.val / 8 - 1)) (blkY m c (t.val / 8 - 1)) (t.val % 8) := by unfold dats; rfl

/-- Where no batch is being written a result's block is untouched and not written back. -/
theorem idle_11 : ∀ t : Fin grid0.N, t.val / 8 = 0 → cfg0.idle 11 (cfg0.grid.coords t) = true ∧ (cfg0.win 11).flush t = false := by decide +kernel
theorem idle_12 : ∀ t : Fin grid0.N, t.val / 8 = 0 → cfg0.idle 12 (cfg0.grid.coords t) = true ∧ (cfg0.win 12).flush t = false := by decide +kernel
theorem live_11 : ∀ t : Fin grid0.N, 0 < t.val / 8 → cfg0.idle 11 (cfg0.grid.coords t) = false := by decide +kernel
theorem live_12 : ∀ t : Fin grid0.N, 0 < t.val / 8 → cfg0.idle 12 (cfg0.grid.coords t) = false := by decide +kernel

/-- What the body leaves of either result's block. -/
theorem leave_11 (c : Dev nD) (t : Fin cfg0.N) {s : St F} (h : Before m c t.val s) (d) :
    own c (win0_11.stage (cfg0.slots t 11)) (outX (grid0.coords t) (ins m c t) (step (grid0.coords t) (ins m c t) s) ((dats m 0 c).before 11 t d)) ⊢ ((dats m 0 c).leavesExact 11 t : sProp 𝕄) := by
  rcases Nat.eq_zero_or_pos (t.val / 8) with h0 | h0
  · rw [(dats m 0 c).leavesExact_idle 11 t (idle_11 t h0).1 (idle_11 t h0).2]
    have h4 : ¬ k0_cond4 (grid0.coords t) = 1#1 := fun hc => by have := (at_point t).c4.mp hc; omega
    unfold outX; rw [dif_neg h4]
    unfold own; iintro H; iexists d; iapply (show _ ⊢ _ from .rfl); iexact H
  · unfold Dat.leavesExact
    rw [live_11 t h0]
    rw [(out_eq (at_point t) h0 (ins m c t) (ins_eq m c t) h.step _ ((dats m 0 c).before 12 t d)).1, after_11]
    exact .rfl
theorem leave_12 (c : Dev nD) (t : Fin cfg0.N) {s : St F} (h : Before m c t.val s) (d) :
    own c (win0_12.stage (cfg0.slots t 12)) (outY (grid0.coords t) (ins m c t) (step (grid0.coords t) (ins m c t) s) ((dats m 0 c).before 12 t d)) ⊢ ((dats m 0 c).leavesExact 12 t : sProp 𝕄) := by
  rcases Nat.eq_zero_or_pos (t.val / 8) with h0 | h0
  · rw [(dats m 0 c).leavesExact_idle 12 t (idle_12 t h0).1 (idle_12 t h0).2]
    have h4 : ¬ k0_cond4 (grid0.coords t) = 1#1 := fun hc => by have := (at_point t).c4.mp hc; omega
    unfold outY; rw [dif_neg h4]
    unfold own; iintro H; iexists d; iapply (show _ ⊢ _ from .rfl); iexact H
  · unfold Dat.leavesExact
    rw [live_12 t h0]
    rw [(out_eq (at_point t) h0 (ins m c t) (ins_eq m c t) h.step ((dats m 0 c).before 11 t d) _).2, after_12]
    exact .rfl

/-- Each input's block, as the loop hands it over, is the array's. -/
theorem in_0 (c : Dev nD) (t : Fin cfg0.N) : (iprop(∃ d, owns c (st0_0 t) fullShare ((dats m 0 c).before 0 t d)) : sProp 𝕄) ⊢ own c (win0_0.stage (cfg0.slots t 0)) (ins m c t).x := by
  iintro ⟨%d, H⟩; rw [before_0]
  iapply (show (owns c (st0_0 t) fullShare (iblk m c 0 t) : sProp 𝕄) ⊢ own c (win0_0.stage (cfg0.slots t 0)) (ins m c t).x from .rfl); iexact H
theorem in_1 (c : Dev nD) (t : Fin cfg0.N) : (iprop(∃ d, owns c (st0_1 t) fullShare ((dats m 0 c).before 1 t d)) : sProp 𝕄) ⊢ own c (win0_1.stage (cfg0.slots t 1)) (ins m c t).y := by
  iintro ⟨%d, H⟩; rw [before_1]
  iapply (show (owns c (st0_1 t) fullShare (iblk m c 1 t) : sProp 𝕄) ⊢ own c (win0_1.stage (cfg0.slots t 1)) (ins m c t).y from .rfl); iexact H
theorem in_2 (c : Dev nD) (t : Fin cfg0.N) : (iprop(∃ d, owns c (st0_2 t) fullShare ((dats m 0 c).before 2 t d)) : sProp 𝕄) ⊢ own c (win0_2.stage (cfg0.slots t 2)) (ins m c t).wqk := by
  iintro ⟨%d, H⟩; rw [before_2]
  iapply (show (owns c (st0_2 t) fullShare (iblk m c 2 t) : sProp 𝕄) ⊢ own c (win0_2.stage (cfg0.slots t 2)) (ins m c t).wqk from .rfl); iexact H
theorem in_3 (c : Dev nD) (t : Fin cfg0.N) : (iprop(∃ d, owns c (st0_3 t) fullShare ((dats m 0 c).before 3 t d)) : sProp 𝕄) ⊢ own c (win0_3.stage (cfg0.slots t 3)) (ins m c t).bqk := by
  iintro ⟨%d, H⟩; rw [before_3]
  iapply (show (owns c (st0_3 t) fullShare (iblk m c 3 t) : sProp 𝕄) ⊢ own c (win0_3.stage (cfg0.slots t 3)) (ins m c t).bqk from .rfl); iexact H
theorem in_4 (c : Dev nD) (t : Fin cfg0.N) : (iprop(∃ d, owns c (st0_4 t) fullShare ((dats m 0 c).before 4 t d)) : sProp 𝕄) ⊢ own c (win0_4.stage (cfg0.slots t 4)) (ins m c t).wqky := by
  iintro ⟨%d, H⟩; rw [before_4]
  iapply (show (owns c (st0_4 t) fullShare (iblk m c 4 t) : sProp 𝕄) ⊢ own c (win0_4.stage (cfg0.slots t 4)) (ins m c t).wqky from .rfl); iexact H
theorem in_5 (c : Dev nD) (t : Fin cfg0.N) : (iprop(∃ d, owns c (st0_5 t) fullShare ((dats m 0 c).before 5 t d)) : sProp 𝕄) ⊢ own c (win0_5.stage (cfg0.slots t 5)) (ins m c t).bqky := by
  iintro ⟨%d, H⟩; rw [before_5]
  iapply (show (owns c (st0_5 t) fullShare (iblk m c 5 t) : sProp 𝕄) ⊢ own c (win0_5.stage (cfg0.slots t 5)) (ins m c t).bqky from .rfl); iexact H
theorem in_6 (c : Dev nD) (t : Fin cfg0.N) : (iprop(∃ d, owns c (st0_6 t) fullShare ((dats m 0 c).before 6 t d)) : sProp 𝕄) ⊢ own c (win0_6.stage (cfg0.slots t 6)) (ins m c t).wv := by
  iintro ⟨%d, H⟩; rw [before_6]
  iapply (show (owns c (st0_6 t) fullShare (iblk m c 6 t) : sProp 𝕄) ⊢ own c (win0_6.stage (cfg0.slots t 6)) (ins m c t).wv from .rfl); iexact H
theorem in_7 (c : Dev nD) (t : Fin cfg0.N) : (iprop(∃ d, owns c (st0_7 t) fullShare ((dats m 0 c).before 7 t d)) : sProp 𝕄) ⊢ own c (win0_7.stage (cfg0.slots t 7)) (ins m c t).bv := by
  iintro ⟨%d, H⟩; rw [before_7]
  iapply (show (owns c (st0_7 t) fullShare (iblk m c 7 t) : sProp 𝕄) ⊢ own c (win0_7.stage (cfg0.slots t 7)) (ins m c t).bv from .rfl); iexact H
theorem in_8 (c : Dev nD) (t : Fin cfg0.N) : (iprop(∃ d, owns c (st0_8 t) fullShare ((dats m 0 c).before 8 t d)) : sProp 𝕄) ⊢ own c (win0_8.stage (cfg0.slots t 8)) (ins m c t).wvy := by
  iintro ⟨%d, H⟩; rw [before_8]
  iapply (show (owns c (st0_8 t) fullShare (iblk m c 8 t) : sProp 𝕄) ⊢ own c (win0_8.stage (cfg0.slots t 8)) (ins m c t).wvy from .rfl); iexact H
theorem in_9 (c : Dev nD) (t : Fin cfg0.N) : (iprop(∃ d, owns c (st0_9 t) fullShare ((dats m 0 c).before 9 t d)) : sProp 𝕄) ⊢ own c (win0_9.stage (cfg0.slots t 9)) (ins m c t).bvy := by
  iintro ⟨%d, H⟩; rw [before_9]
  iapply (show (owns c (st0_9 t) fullShare (iblk m c 9 t) : sProp 𝕄) ⊢ own c (win0_9.stage (cfg0.slots t 9)) (ins m c t).bvy from .rfl); iexact H
theorem in_10 (c : Dev nD) (t : Fin cfg0.N) : (iprop(∃ d, owns c (st0_10 t) fullShare ((dats m 0 c).before 10 t d)) : sProp 𝕄) ⊢ own c (win0_10.stage (cfg0.slots t 10)) (ins m c t).s := by
  iintro ⟨%d, H⟩; rw [before_10]
  iapply (show (owns c (st0_10 t) fullShare (iblk m c 10 t) : sProp 𝕄) ⊢ own c (win0_10.stage (cfg0.slots t 10)) (ins m c t).s from .rfl); iexact H

/-- The body's run at one point, the windows written out one by one. -/
theorem point_run (c : Dev nD) (t : Fin cfg0.N) :
    iprop(inv m c t.val ∗ (dats m 0 c).owesAt () t.castSucc ∗ own c (win0_0.stage (cfg0.slots t 0)) (ins m c t).x ∗ own c (win0_1.stage (cfg0.slots t 1)) (ins m c t).y ∗ own c (win0_2.stage (cfg0.slots t 2)) (ins m c t).wqk ∗ own c (win0_3.stage (cfg0.slots t 3)) (ins m c t).bqk ∗ own c (win0_4.stage (cfg0.slots t 4)) (ins m c t).wqky ∗ own c (win0_5.stage (cfg0.slots t 5)) (ins m c t).bqky ∗ own c (win0_6.stage (cfg0.slots t 6)) (ins m c t).wv ∗ own c (win0_7.stage (cfg0.slots t 7)) (ins m c t).bv ∗ own c (win0_8.stage (cfg0.slots t 8)) (ins m c t).wvy ∗ own c (win0_9.stage (cfg0.slots t 9)) (ins m c t).bvy ∗ own c (win0_10.stage (cfg0.slots t 10)) (ins m c t).s ∗ (∃ d, own c (win0_11.stage (cfg0.slots t 11)) ((dats m 0 c).before 11 t d)) ∗ (∃ d, own c (win0_12.stage (cfg0.slots t 12)) ((dats m 0 c).before 12 t d)))
      ⊢ wp frame (wpE (defs₀ (F := F)) Variants.none c none) Set.univ (bodyAt0 t)
          (fun _ => iprop(inv m c (t.val + 1) ∗ (dats m 0 c).owesAt () t.castSucc ∗ own c (win0_0.stage (cfg0.slots t 0)) (ins m c t).x ∗ own c (win0_1.stage (cfg0.slots t 1)) (ins m c t).y ∗ own c (win0_2.stage (cfg0.slots t 2)) (ins m c t).wqk ∗ own c (win0_3.stage (cfg0.slots t 3)) (ins m c t).bqk ∗ own c (win0_4.stage (cfg0.slots t 4)) (ins m c t).wqky ∗ own c (win0_5.stage (cfg0.slots t 5)) (ins m c t).bqky ∗ own c (win0_6.stage (cfg0.slots t 6)) (ins m c t).wv ∗ own c (win0_7.stage (cfg0.slots t 7)) (ins m c t).bv ∗ own c (win0_8.stage (cfg0.slots t 8)) (ins m c t).wvy ∗ own c (win0_9.stage (cfg0.slots t 9)) (ins m c t).bvy ∗ own c (win0_10.stage (cfg0.slots t 10)) (ins m c t).s ∗ (dats m 0 c).leavesExact 11 t ∗ (dats m 0 c).leavesExact 12 t) : PUnit → sProp 𝕄) := by
  unfold inv scr
  iintro ⟨⟨%s, %hs, S, R⟩, O, M0, M1, M2, M3, M4, M5, M6, M7, M8, M9, M10, ⟨%d11, M11⟩, ⟨%d12, M12⟩⟩
  iapply (body_run c (grid0.coords t) (fun h => (at_point t).c2.mpr ((at_point t).c1.mp h).1) (fun h => (at_point t).c4.mpr ((at_point t).c3.mp h).1)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12))
    scQx (Memref.isWhole_whole _) scQy (Memref.isWhole_whole _) scMx (Memref.isWhole_whole _) scMy (Memref.isWhole_whole _) scKx (Memref.isWhole_whole _) scKy (Memref.isWhole_whole _) scXx (Memref.isWhole_whole _) scXy (Memref.isWhole_whole _) scAx (Memref.isWhole_whole _) scAy (Memref.isWhole_whole _) scVx (Memref.isWhole_whole _) scVy (Memref.isWhole_whole _) scKp (Memref.isWhole_whole _)
    (ins m c t) s ((dats m 0 c).before 11 t d11) ((dats m 0 c).before 12 t d12))
  isplitl [M0]; · iexact M0
  isplitl [M1]; · iexact M1
  isplitl [M2]; · iexact M2
  isplitl [M3]; · iexact M3
  isplitl [M4]; · iexact M4
  isplitl [M5]; · iexact M5
  isplitl [M6]; · iexact M6
  isplitl [M7]; · iexact M7
  isplitl [M8]; · iexact M8
  isplitl [M9]; · iexact M9
  isplitl [M10]; · iexact M10
  isplitl [M11]; · iexact M11
  isplitl [M12]; · iexact M12
  isplitl [S]; · iexact S
  iintro L
  unfold left
  icases L with ⟨M0, M1, M2, M3, M4, M5, M6, M7, M8, M9, M10, M11, M12, S⟩
  isplitl [S R]
  · iexists _
    isplitr; · ipureintro; exact Before.next m (hs.step)
    isplitl [S]; · iexact S
    iexact R
  isplitl [O]; · iexact O
  isplitl [M0]; · iexact M0
  isplitl [M1]; · iexact M1
  isplitl [M2]; · iexact M2
  isplitl [M3]; · iexact M3
  isplitl [M4]; · iexact M4
  isplitl [M5]; · iexact M5
  isplitl [M6]; · iexact M6
  isplitl [M7]; · iexact M7
  isplitl [M8]; · iexact M8
  isplitl [M9]; · iexact M9
  isplitl [M10]; · iexact M10
  isplitl [M11]; · iapply (leave_11 m c t hs d11); iexact M11
  iapply (leave_12 m c t hs d12); iexact M12

theorem defs₀_row (t : Fin cfg0.N) : defs₀ (F := F) .tc cfg0.body (cfg0.bodyArgs t (cfg0.slots t)) = bodyAt0 t := by
  unfold defs₀; rw [Defs.onTc_tc]

theorem same (A : sProp 𝕄) : A ⊢ A := .rfl
theorem pair_mono {A A' B B' : sProp 𝕄} (h : A ⊢ A') (h' : B ⊢ B') : iprop(A ∗ B) ⊢ iprop(A' ∗ B') := by
  iintro ⟨X, Y⟩
  isplitl [X]
  · iapply h; iexact X
  · iapply h'; iexact Y

set_option maxHeartbeats 4000000 in
/-- Every point's obligation. -/
theorem body_obligation (c : Dev nD) : BodyObligation (dats (F := F) m 0 c) (defs₀ (F := F)) Variants.none () Set.univ := fun t => by
  rw [bigSep_W0, bigSep_W0, defs₀_row]
  refine triple_restated (point_run m c t) rfl ?_ fun _ => ?_
  · exact pair_mono (same _) (pair_mono (same _) ((pair_mono (in_0 m c t) (pair_mono (in_1 m c t) (pair_mono (in_2 m c t) (pair_mono (in_3 m c t) (pair_mono (in_4 m c t) (pair_mono (in_5 m c t) (pair_mono (in_6 m c t) (pair_mono (in_7 m c t) (pair_mono (in_8 m c t) (pair_mono (in_9 m c t) (pair_mono (in_10 m c t) (pair_mono (same _) (same _)))))))))))))))
  · exact pair_mono (same _) (pair_mono (same _) ((pair_mono (same _) (pair_mono (same _) (pair_mono (same _) (pair_mono (same _) (pair_mono (same _) (pair_mono (same _) (pair_mono (same _) (pair_mono (same _) (pair_mono (same _) (pair_mono (same _) (pair_mono (same _) (pair_mono (same _) (same _)))))))))))))))

/-- The scratch buffers as the launch hands them over hold the statement before the first point. -/
theorem inv_first (c : Dev nD) : (Pipeline.ΦA spec0 c : sProp 𝕄) ⊢ (dats m 0 c).Φ 0 := by
  show _ ⊢ inv m c 0
  unfold Pipeline.ΦA
  rw [scopedRest0_eq]
  iintro ⟨⟨⟨%f0, G0⟩, ⟨%f1, G1⟩, ⟨%f2, G2⟩, ⟨%f3, G3⟩, ⟨%f4, G4⟩, ⟨%f5, G5⟩, ⟨%f6, G6⟩, ⟨%f7, G7⟩, ⟨%f8, G8⟩, ⟨%f9, G9⟩, ⟨%f10, G10⟩, ⟨%f11, G11⟩, ⟨%f12, G12⟩⟩, R⟩
  unfold inv
  iexists (⟨f0, f1, f2, f3, f4, f5, f6, f7, f8, f9, f10, f11, f12⟩ : St F)
  isplitr; · ipureintro; exact Before.first m c _
  isplitr [R]
  · unfold scr scrOf
    isplitl [G0]; · iapply (own_intro c scQx (Memref.isWhole_whole _) f0 _ rfl); iexact G0
    isplitl [G1]; · iapply (own_intro c scQy (Memref.isWhole_whole _) f1 _ rfl); iexact G1
    isplitl [G2]; · iapply (own_intro c scMx (Memref.isWhole_whole _) f2 _ rfl); iexact G2
    isplitl [G3]; · iapply (own_intro c scMy (Memref.isWhole_whole _) f3 _ rfl); iexact G3
    isplitl [G4]; · iapply (own_intro c scKx (Memref.isWhole_whole _) f4 _ rfl); iexact G4
    isplitl [G5]; · iapply (own_intro c scKy (Memref.isWhole_whole _) f5 _ rfl); iexact G5
    isplitl [G6]; · iapply (own_intro c scXx (Memref.isWhole_whole _) f6 _ rfl); iexact G6
    isplitl [G7]; · iapply (own_intro c scXy (Memref.isWhole_whole _) f7 _ rfl); iexact G7
    isplitl [G8]; · iapply (own_intro c scAx (Memref.isWhole_whole _) f8 _ rfl); iexact G8
    isplitl [G9]; · iapply (own_intro c scAy (Memref.isWhole_whole _) f9 _ rfl); iexact G9
    isplitl [G10]; · iapply (own_intro c scVx (Memref.isWhole_whole _) f10 _ rfl); iexact G10
    isplitl [G11]; · iapply (own_intro c scVy (Memref.isWhole_whole _) f11 _ rfl); iexact G11
    iapply (own_intro c scKp (Memref.isWhole_whole _) f12 _ rfl); iexact G12
  · iexact R

theorem own_elim (c : Dev nD) {sp : Space} {S : Shape} {e : EltTy} (M : Memref sig .tc sp S e) (H : M.IsWhole) (X : S.Idx → Elt F e) :
    (own c M X : sProp 𝕄) ⊢ iprop(∃ f : Buf (Elt F) (M.view.loc (c : Thread nD τ)), (M.view.loc (c : Thread nD τ) ↦{fullShare} f)) := by
  rw [own_eq c M H]; iintro ⟨%f, %h, H⟩; iexists f; iexact H

/-- And hand them back after the last. -/
theorem inv_last (c : Dev nD) : (dats m 0 c).Φ (Fin.last cfg0.N) ⊢ (Pipeline.ΦA spec0 c : sProp 𝕄) := by
  show inv m c cfg0.N ⊢ _
  unfold Pipeline.ΦA
  rw [scopedRest0_eq]
  unfold inv scr scrOf
  iintro ⟨%s, %hs, ⟨G0, G1, G2, G3, G4, G5, G6, G7, G8, G9, G10, G11, G12⟩, R⟩
  isplitr [R]
  · isplitl [G0]; · iapply (own_elim c scQx (Memref.isWhole_whole _) _); iexact G0
    isplitl [G1]; · iapply (own_elim c scQy (Memref.isWhole_whole _) _); iexact G1
    isplitl [G2]; · iapply (own_elim c scMx (Memref.isWhole_whole _) _); iexact G2
    isplitl [G3]; · iapply (own_elim c scMy (Memref.isWhole_whole _) _); iexact G3
    isplitl [G4]; · iapply (own_elim c scKx (Memref.isWhole_whole _) _); iexact G4
    isplitl [G5]; · iapply (own_elim c scKy (Memref.isWhole_whole _) _); iexact G5
    isplitl [G6]; · iapply (own_elim c scXx (Memref.isWhole_whole _) _); iexact G6
    isplitl [G7]; · iapply (own_elim c scXy (Memref.isWhole_whole _) _); iexact G7
    isplitl [G8]; · iapply (own_elim c scAx (Memref.isWhole_whole _) _); iexact G8
    isplitl [G9]; · iapply (own_elim c scAy (Memref.isWhole_whole _) _); iexact G9
    isplitl [G10]; · iapply (own_elim c scVx (Memref.isWhole_whole _) _); iexact G10
    isplitl [G11]; · iapply (own_elim c scVy (Memref.isWhole_whole _) _); iexact G11
    iapply (own_elim c scKp (Memref.isWhole_whole _) _); iexact G12
  · iexact R

/-- The whole program's run: every array as the proof data names it, every semaphore at zero. -/
theorem launch : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ Variants.none m ρ main (fun c => (body_obligation m c).loose)
    (fun _ w => ite_self _) (fun _ _ => rfl) (V m) (hmain m Variants.none) (fun c w => A_eq m c w) (inv_first m) (inv_last m)
    (fun r => Pipeline.FramePost cfgs (dats m) 0 (V m) r ∧ r.2.sem = fun _ => 0) fun _ h => h

end Cert.KernelIdeal.Hand
-- ==== Proof.Frames.lean ====
module

public import proofs.«01_k».proof.Proof.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The kernel's frame, over any float values: the program runs, its arguments are unchanged, every semaphore ends at zero. -/

variable {F : FTy → Type} [FloatOps F]
variable (m : (ℓ : Loc nD τ sig) → Buf (Elt F) ℓ) (ρ : Dev nD → PrngReg)

/-- Every argument is as it was. -/
def Kept (r : PUnit × MemSt nD τ sig (Elt F)) : Prop := ∀ c : Dev nD,
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)

set_option maxHeartbeats 2000000 in
theorem kept_of {r : PUnit × MemSt nD τ sig (Elt F)} (h : Pipeline.FramePost cfgs (dats m) 0 (V m) r ∧ r.2.sem = fun _ => 0) : Kept m r := fun c =>
  ⟨((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).1 6).trans (((dats m 0 c).arrAt_in 6 rfl _).trans ((A_eq m c 6).trans (V_main_arg6 m c))),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).1 8).trans (((dats m 0 c).arrAt_in 8 rfl _).trans ((A_eq m c 8).trans (V_main_arg12 m c))),
    ((h.1 c).2 main_arg13 (Pipeline.mem_restRefs_of main_arg13 (by decide) (by decide))).trans (V_main_arg13 m c),
    ((h.1 c).2 main_arg14 (Pipeline.mem_restRefs_of main_arg14 (by decide) (by decide))).trans (V_main_arg14 m c),
    ((h.1 c).2 main_arg15 (Pipeline.mem_restRefs_of main_arg15 (by decide) (by decide))).trans (V_main_arg15 m c),
    ((h.1 c).2 main_arg16 (Pipeline.mem_restRefs_of main_arg16 (by decide) (by decide))).trans (V_main_arg16 m c),
    ((h.1 c).2 main_arg17 (Pipeline.mem_restRefs_of main_arg17 (by decide) (by decide))).trans (V_main_arg17 m c),
    ((h.1 c).2 main_arg18 (Pipeline.mem_restRefs_of main_arg18 (by decide) (by decide))).trans (V_main_arg18 m c),
    ((h.1 c).2 main_arg19 (Pipeline.mem_restRefs_of main_arg19 (by decide) (by decide))).trans (V_main_arg19 m c),
    ((h.1 c).2 main_arg20 (Pipeline.mem_restRefs_of main_arg20 (by decide) (by decide))).trans (V_main_arg20 m c),
    ((h.1 c).2 main_arg21 (Pipeline.mem_restRefs_of main_arg21 (by decide) (by decide))).trans (V_main_arg21 m c)⟩

theorem frame_run : θ_run defs (onTc (τ := τ) (main (F := F))) ⟨m, fun _ => 0, ρ⟩ (fun r => Kept m r ∧ r.2.sem = fun _ => 0) :=
  (θ_run defs _ _).mono (fun _ h => ⟨kept_of m h, h.2⟩) (launch m ρ)

end Cert.KernelIdeal.Hand
-- ==== Proof.Arrays.lean ====
/- What the launch leaves in the two result arrays, and what its input blocks hold, at coordinates. -/
module

public import proofs.«01_k».proof.Proof.Launch
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat Cfg Window)

variable {F : FTy → Type} [FloatOps F]
variable (m : (l : Loc nD τ sig) → Buf (Elt F) l)

/-- Which block of the rows a point reads, and which block of a result it writes. -/
theorem index_0 : ∀ t : Fin grid0.N, t.val < 64 → win0_0.index t = ![t.val / 8, t.val % 8, 0] := by decide +kernel
theorem index_1 : ∀ t : Fin grid0.N, t.val < 64 → win0_1.index t = ![t.val / 8, t.val % 8, 0] := by decide +kernel
theorem index_11 : ∀ t : Fin grid0.N, 8 ≤ t.val → win0_11.index t = ![t.val / 8 - 1, t.val % 8, 0] := by decide +kernel
theorem index_12 : ∀ t : Fin grid0.N, 8 ≤ t.val → win0_12.index t = ![t.val / 8 - 1, t.val % 8, 0] := by decide +kernel
theorem flush_11 : ∀ t : Fin grid0.N, (cfg0.win 11).flush t = true → 8 ≤ t.val := by decide +kernel
theorem flush_12 : ∀ t : Fin grid0.N, (cfg0.win 12).flush t = true → 8 ≤ t.val := by decide +kernel

/-- An array of batches of rows from its blocks. -/
def assemble (f : ℕ → ℕ → S1x2048x256.Idx → Elt F .f32) : S8x16384x256.Idx → Elt F .f32 := fun i =>
  f (i 0).val ((i 1).val / 2048) (ix3 0 ⟨(i 1).val % 2048, Nat.mod_lt _ (by omega)⟩ (i 2))

theorem assemble_of (f : ℕ → ℕ → S1x2048x256.Idx → Elt F .f32) (i : S8x16384x256.Idx) (g j : ℕ) (y : S1x2048x256.Idx)
    (h0 : (i 0).val = g + (y 0).val) (h1 : (i 1).val = j * 2048 + (y 1).val) (h2 : (i 2).val = (y 2).val) :
    f g j y = assemble f i := by
  have y0 : (y 0).val < 1 := (y 0).isLt
  have y1 : (y 1).val < 2048 := (y 1).isLt
  unfold assemble
  have e0 : (i 0).val = g := by omega
  have e1 : (i 1).val / 2048 = j := by omega
  rw [e0, e1]
  refine congrArg (f g j) (funext fun a => Fin.ext ?_)
  match a with
  | 0 => show (y 0).val = 0; omega
  | 1 => show (y 1).val = (i 1).val % 2048; omega
  | 2 => exact h2.symm

theorem final_x (c : Dev nD) : (dats m 0 c).arrAt 11 cfg0.N
    = (assemble fun g j => resX (wts m c) (blkX m c g) (blkY m c g) j) := by
  refine (dats m 0 c).arrAt_eq_of_covers 11 _ (by decide +kernel) fun t hf y => ?_
  have ht : 8 ≤ t.val := flush_11 t hf
  blk_simp
  rw [after_11]
  refine assemble_of (fun g j => resX (wts m c) (blkX m c g) (blkY m c g) j) _ _ _ y ?_ ?_ ?_ <;> blk_simp [index_11 t ht] <;> rfl

theorem final_y (c : Dev nD) : (dats m 0 c).arrAt 12 cfg0.N
    = (assemble fun g j => resY (wts m c) (blkX m c g) (blkY m c g) j) := by
  refine (dats m 0 c).arrAt_eq_of_covers 12 _ (by decide +kernel) fun t hf y => ?_
  have ht : 8 ≤ t.val := flush_12 t hf
  blk_simp
  rw [after_12]
  refine assemble_of (fun g j => resY (wts m c) (blkX m c g) (blkY m c g) j) _ _ _ y ?_ ?_ ?_ <;> blk_simp [index_12 t ht] <;> rfl

theorem pnt_val (g j : Fin 8) : (pnt g.val j.val).val = 8 * g.val + j.val := by
  show min (8 * g.val + j.val) 71 = _
  omega

theorem blkX_apply (c : Dev nD) (g j : Fin 8) (r : Fin 2048) (ch : Fin 256) :
    blkX m c g.val j.val (ix3 0 r ch) = V m c main_arg0 (ix3 g ⟨j.val * 2048 + r.val, by omega⟩ ch : S8x16384x256.Idx) := by
  have hv := pnt_val g j
  unfold blkX
  generalize pnt g.val j.val = t at hv
  blk_simp [iblk]
  refine congrArg (V m c main_arg0) (funext fun a => Fin.ext ?_)
  have e := index_0 t (by omega)
  match a with
  | 0 => blk_simp [e]; show t.val / 8 + 0 = g.val; omega
  | 1 => blk_simp [e]; show t.val % 8 * 2048 + r.val = j.val * 2048 + r.val; omega
  | 2 => blk_simp [e]

theorem blkY_apply (c : Dev nD) (g j : Fin 8) (r : Fin 2048) (ch : Fin 256) :
    blkY m c g.val j.val (ix3 0 r ch) = V m c main_arg1 (ix3 g ⟨j.val * 2048 + r.val, by omega⟩ ch : S8x16384x256.Idx) := by
  have hv := pnt_val g j
  unfold blkY
  generalize pnt g.val j.val = t at hv
  blk_simp [iblk]
  refine congrArg (V m c main_arg1) (funext fun a => Fin.ext ?_)
  have e := index_1 t (by omega)
  match a with
  | 0 => blk_simp [e]; show t.val / 8 + 0 = g.val; omega
  | 1 => blk_simp [e]; show t.val % 8 * 2048 + r.val = j.val * 2048 + r.val; omega
  | 2 => blk_simp [e]

end Cert.KernelIdeal.Hand
-- ==== Proof.Weights.lean ====
/- The weights the kernel works with, in terms of the program's arguments: the host operations before the launch lay two
   matrices above each other and multiply the four branches' factors. -/
module

public import proofs.«01_k».proof.Proof.Launch
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.VecWindow
open Idealize.ShloMosaic.Pipeline (Dat Cfg Window)

variable {F : FTy → Type} [FloatOps F]
variable (m : (l : Loc nD τ sig) → Buf (Elt F) l)

/-- An argument's array. -/
abbrev arg (c : Dev nD) (b : Ref sig .tc) : Buf (Elt F) ((c : Thread nD τ).loc b) := m ((c : Thread nD τ).loc b)

/-! ## Each weight's block is its whole array -/

theorem index_2 : ∀ t : Fin grid0.N, win0_2.index t = ![0, 0] := by decide +kernel
theorem wts_wqk (c : Dev nD) : (wts m c).wqk = V m c main_v0 := by
  show iblk m c 2 (pnt 0 0) = _
  generalize pnt 0 0 = t
  funext y
  blk_simp [iblk]
  refine congrArg (V m c main_v0) (funext fun a => Fin.ext ?_)
  match a with
  | 0 => blk_simp [index_2]
  | 1 => blk_simp [index_2]

theorem index_3 : ∀ t : Fin grid0.N, win0_3.index t = ![0, 0] := by decide +kernel
theorem wts_bqk (c : Dev nD) : (wts m c).bqk = V m c main_v3 := by
  show iblk m c 3 (pnt 0 0) = _
  generalize pnt 0 0 = t
  funext y
  blk_simp [iblk]
  refine congrArg (V m c main_v3) (funext fun a => Fin.ext ?_)
  match a with
  | 0 => blk_simp [index_3]
  | 1 => blk_simp [index_3]

theorem index_4 : ∀ t : Fin grid0.N, win0_4.index t = ![0, 0] := by decide +kernel
theorem wts_wqky (c : Dev nD) : (wts m c).wqky = V m c main_v1 := by
  show iblk m c 4 (pnt 0 0) = _
  generalize pnt 0 0 = t
  funext y
  blk_simp [iblk]
  refine congrArg (V m c main_v1) (funext fun a => Fin.ext ?_)
  match a with
  | 0 => blk_simp [index_4]
  | 1 => blk_simp [index_4]

theorem index_5 : ∀ t : Fin grid0.N, win0_5.index t = ![0, 0] := by decide +kernel
theorem wts_bqky (c : Dev nD) : (wts m c).bqky = V m c main_v5 := by
  show iblk m c 5 (pnt 0 0) = _
  generalize pnt 0 0 = t
  funext y
  blk_simp [iblk]
  refine congrArg (V m c main_v5) (funext fun a => Fin.ext ?_)
  match a with
  | 0 => blk_simp [index_5]
  | 1 => blk_simp [index_5]

theorem index_6 : ∀ t : Fin grid0.N, win0_6.index t = ![0, 0] := by decide +kernel
theorem wts_wv (c : Dev nD) : (wts m c).wv = V m c main_arg6 := by
  show iblk m c 6 (pnt 0 0) = _
  generalize pnt 0 0 = t
  funext y
  blk_simp [iblk]
  refine congrArg (V m c main_arg6) (funext fun a => Fin.ext ?_)
  match a with
  | 0 => blk_simp [index_6]
  | 1 => blk_simp [index_6]

theorem index_7 : ∀ t : Fin grid0.N, win0_7.index t = ![0, 0] := by decide +kernel
theorem wts_bv (c : Dev nD) : (wts m c).bv = V m c main_v19 := by
  show iblk m c 7 (pnt 0 0) = _
  generalize pnt 0 0 = t
  funext y
  blk_simp [iblk]
  refine congrArg (V m c main_v19) (funext fun a => Fin.ext ?_)
  match a with
  | 0 => blk_simp [index_7]
  | 1 => blk_simp [index_7]

theorem index_8 : ∀ t : Fin grid0.N, win0_8.index t = ![0, 0] := by decide +kernel
theorem wts_wvy (c : Dev nD) : (wts m c).wvy = V m c main_arg12 := by
  show iblk m c 8 (pnt 0 0) = _
  generalize pnt 0 0 = t
  funext y
  blk_simp [iblk]
  refine congrArg (V m c main_arg12) (funext fun a => Fin.ext ?_)
  match a with
  | 0 => blk_simp [index_8]
  | 1 => blk_simp [index_8]

theorem index_9 : ∀ t : Fin grid0.N, win0_9.index t = ![0, 0] := by decide +kernel
theorem wts_bvy (c : Dev nD) : (wts m c).bvy = V m c main_v20 := by
  show iblk m c 9 (pnt 0 0) = _
  generalize pnt 0 0 = t
  funext y
  blk_simp [iblk]
  refine congrArg (V m c main_v20) (funext fun a => Fin.ext ?_)
  match a with
  | 0 => blk_simp [index_9]
  | 1 => blk_simp [index_9]

theorem index_10 : ∀ t : Fin grid0.N, win0_10.index t = ![0] := by decide +kernel
theorem wts_s (c : Dev nD) : (wts m c).s = V m c main_v18 := by
  show iblk m c 10 (pnt 0 0) = _
  generalize pnt 0 0 = t
  funext y
  blk_simp [iblk]
  refine congrArg (V m c main_v18) (funext fun a => Fin.ext ?_)
  match a with
  | 0 => blk_simp [index_10]

/-! ## The host operations -/

theorem v0_eq (c : Dev nD) : V m c main_v0 =
    concatenate S64x256 0 [⟨S32x256, arg m c main_arg2⟩, ⟨S32x256, arg m c main_arg4⟩] concatenates_S32x256_S32x256_S64x256_d0 := by
  unfold V hostOps0
  after_results

theorem v1_eq (c : Dev nD) : V m c main_v1 =
    concatenate S64x256 0 [⟨S32x256, arg m c main_arg8⟩, ⟨S32x256, arg m c main_arg10⟩] concatenates_S32x256_S32x256_S64x256_d0 := by
  unfold V hostOps0
  after_results

theorem v3_eq (c : Dev nD) : V m c main_v3 = shapeCast S1x64
    (concatenate S64 0 [⟨S32, arg m c main_arg3⟩, ⟨S32, arg m c main_arg5⟩] concatenates_S32_S32_S64_d0) shapeCasts_S64_S1x64 := by
  unfold V hostOps0
  after_results
  try rfl

theorem v5_eq (c : Dev nD) : V m c main_v5 = shapeCast S1x64
    (concatenate S64 0 [⟨S32, arg m c main_arg9⟩, ⟨S32, arg m c main_arg11⟩] concatenates_S32_S32_S64_d0) shapeCasts_S64_S1x64 := by
  unfold V hostOps0
  after_results
  try rfl

theorem v19_eq (c : Dev nD) : V m c main_v19 = shapeCast S1x256 (arg m c main_arg7) shapeCasts_S256_S1x256 := by
  unfold V hostOps0
  after_results
  try rfl

theorem v20_eq (c : Dev nD) : V m c main_v20 = shapeCast S1x256 (arg m c main_arg13) shapeCasts_S256_S1x256 := by
  unfold V hostOps0
  after_results
  try rfl

/-- One branch's weight as a one-entry array: its factor times its share. -/
def weightOf (g : S1.Idx → Elt F .f32) (w : S_.Idx → Elt F .f32) : S1.Idx → Elt F .f32 :=
  broadcastInDim S1 ![] bcast_S_S1 (mulf (shapeCast S_ g shapeCasts_S1_S_) w)

theorem v18_eq (c : Dev nD) : V m c main_v18 = concatenate S4 0
    [⟨S1, weightOf (arg m c main_arg14) (arg m c main_arg18)⟩, ⟨S1, weightOf (arg m c main_arg16) (arg m c main_arg19)⟩,
     ⟨S1, weightOf (arg m c main_arg15) (arg m c main_arg20)⟩, ⟨S1, weightOf (arg m c main_arg17) (arg m c main_arg21)⟩]
    concatenates_S1_S1_S1_S1_S4_d0 := by
  unfold V hostOps0
  after_results
  try rfl

/-! ## A half of a stacked array at coordinates -/

theorem upper_half (x : S64x256.Idx → Elt F .f32) (e : Fin 32) (ch : Fin 256) :
    window x ![0, 0] S32x256.size inb_S64x256_S32x256_0_0 (ix2 e ch) = x (ix2 ⟨0 + e.val, by omega⟩ ch) := by
  unfold window
  refine congrArg x (funext fun a => Fin.ext ?_)
  match a with
  | 0 => simp [Rect.emb, Rect.unit, ix2]
  | 1 => simp [Rect.emb, Rect.unit, ix2]

theorem lower_half (x : S64x256.Idx → Elt F .f32) (e : Fin 32) (ch : Fin 256) :
    window x ![32, 0] S32x256.size inb_S64x256_S32x256_32_0 (ix2 e ch) = x (ix2 ⟨32 + e.val, by omega⟩ ch) := by
  unfold window
  refine congrArg x (funext fun a => Fin.ext ?_)
  match a with
  | 0 => simp [Rect.emb, Rect.unit, ix2]
  | 1 => simp [Rect.emb, Rect.unit, ix2]

theorem left_half (x : S1x64.Idx → Elt F .f32) (e : Fin 32) :
    window x ![0, 0] S1x32.size inb_S1x64_S1x32_0_0 (ix2 0 e) = x (ix2 0 ⟨0 + e.val, by omega⟩) := by
  unfold window
  refine congrArg x (funext fun a => Fin.ext ?_)
  match a with
  | 0 => simp [Rect.emb, Rect.unit, ix2]
  | 1 => simp [Rect.emb, Rect.unit, ix2]

theorem right_half (x : S1x64.Idx → Elt F .f32) (e : Fin 32) :
    window x ![0, 32] S1x32.size inb_S1x64_S1x32_0_32 (ix2 0 e) = x (ix2 0 ⟨32 + e.val, by omega⟩) := by
  unfold window
  refine congrArg x (funext fun a => Fin.ext ?_)
  match a with
  | 0 => simp [Rect.emb, Rect.unit, ix2]
  | 1 => simp [Rect.emb, Rect.unit, ix2]

/-! ## The weights at coordinates -/

theorem wq_apply (c : Dev nD) (e : Fin 32) (ch : Fin 256) :
    (wts m c).wq (ix2 e ch) = arg m c main_arg2 (ix2 e ch : S32x256.Idx) := by
  unfold Ins.wq
  rw [wts_wqk, v0_eq, upper_half]
  generalize arg m c main_arg2 = a
  generalize arg m c main_arg4 = b
  pointwise

theorem wk_apply (c : Dev nD) (e : Fin 32) (ch : Fin 256) :
    (wts m c).wk (ix2 e ch) = arg m c main_arg4 (ix2 e ch : S32x256.Idx) := by
  unfold Ins.wk
  rw [wts_wqk, v0_eq, lower_half]
  generalize arg m c main_arg2 = a
  generalize arg m c main_arg4 = b
  pointwise

theorem wqy_apply (c : Dev nD) (e : Fin 32) (ch : Fin 256) :
    (wts m c).wqy (ix2 e ch) = arg m c main_arg8 (ix2 e ch : S32x256.Idx) := by
  unfold Ins.wqy
  rw [wts_wqky, v1_eq, upper_half]
  generalize arg m c main_arg8 = a
  generalize arg m c main_arg10 = b
  pointwise

theorem wky_apply (c : Dev nD) (e : Fin 32) (ch : Fin 256) :
    (wts m c).wky (ix2 e ch) = arg m c main_arg10 (ix2 e ch : S32x256.Idx) := by
  unfold Ins.wky
  rw [wts_wqky, v1_eq, lower_half]
  generalize arg m c main_arg8 = a
  generalize arg m c main_arg10 = b
  pointwise

theorem bq_apply (c : Dev nD) (e : Fin 32) : (wts m c).bq (ix2 0 e) = arg m c main_arg3 (ix1 e : S32.Idx) := by
  unfold Ins.bq
  rw [wts_bqk, v3_eq, left_half]
  generalize arg m c main_arg3 = a
  generalize arg m c main_arg5 = b
  pointwise

theorem bk_apply (c : Dev nD) (e : Fin 32) : (wts m c).bk (ix2 0 e) = arg m c main_arg5 (ix1 e : S32.Idx) := by
  unfold Ins.bk
  rw [wts_bqk, v3_eq, right_half]
  generalize arg m c main_arg3 = a
  generalize arg m c main_arg5 = b
  pointwise

theorem bqy_apply (c : Dev nD) (e : Fin 32) : (wts m c).bqy (ix2 0 e) = arg m c main_arg9 (ix1 e : S32.Idx) := by
  unfold Ins.bqy
  rw [wts_bqky, v5_eq, left_half]
  generalize arg m c main_arg9 = a
  generalize arg m c main_arg11 = b
  pointwise

theorem bky_apply (c : Dev nD) (e : Fin 32) : (wts m c).bky (ix2 0 e) = arg m c main_arg11 (ix1 e : S32.Idx) := by
  unfold Ins.bky
  rw [wts_bqky, v5_eq, right_half]
  generalize arg m c main_arg9 = a
  generalize arg m c main_arg11 = b
  pointwise

theorem bv_apply (c : Dev nD) (e : Fin 256) : (wts m c).bv (ix2 0 e) = arg m c main_arg7 (ix1 e : S256.Idx) := by
  rw [wts_bv, v19_eq]
  generalize arg m c main_arg7 = a
  pointwise

theorem bvy_apply (c : Dev nD) (e : Fin 256) : (wts m c).bvy (ix2 0 e) = arg m c main_arg13 (ix1 e : S256.Idx) := by
  rw [wts_bvy, v20_eq]
  generalize arg m c main_arg13 = a
  pointwise

theorem w_0_apply (c : Dev nD) :
    (wts m c).w 0 = FloatOps.mulf (arg m c main_arg14 (ix1 0 : S1.Idx)) (arg m c main_arg18 (ix0 : S_.Idx)) := by
  unfold Ins.w entry
  rw [wts_s, v18_eq]
  unfold weightOf
  generalize arg m c main_arg14 = g
  generalize arg m c main_arg18 = w
  pointwise

theorem w_1_apply (c : Dev nD) :
    (wts m c).w 1 = FloatOps.mulf (arg m c main_arg16 (ix1 0 : S1.Idx)) (arg m c main_arg19 (ix0 : S_.Idx)) := by
  unfold Ins.w entry
  rw [wts_s, v18_eq]
  unfold weightOf
  generalize arg m c main_arg16 = g
  generalize arg m c main_arg19 = w
  pointwise

theorem w_2_apply (c : Dev nD) :
    (wts m c).w 2 = FloatOps.mulf (arg m c main_arg15 (ix1 0 : S1.Idx)) (arg m c main_arg20 (ix0 : S_.Idx)) := by
  unfold Ins.w entry
  rw [wts_s, v18_eq]
  unfold weightOf
  generalize arg m c main_arg15 = g
  generalize arg m c main_arg20 = w
  pointwise

theorem w_3_apply (c : Dev nD) :
    (wts m c).w 3 = FloatOps.mulf (arg m c main_arg17 (ix1 0 : S1.Idx)) (arg m c main_arg21 (ix0 : S_.Idx)) := by
  unfold Ins.w entry
  rw [wts_s, v18_eq]
  unfold weightOf
  generalize arg m c main_arg17 = g
  generalize arg m c main_arg21 = w
  pointwise

end Cert.KernelIdeal.Hand
-- ==== Proof.Algebra.lean ====
/- The mathematics of the two programs over extended reals, with no program in it: one stream's projections, the two ways
   of normalising a row, the sums over the rows, and the two forms of a result. `branch_eq`, with the lemmas after it, says that the
   two forms agree where the rows and the value weights are finite and nothing is divided by zero. -/
module

public import Idealize.ShloMosaic.PureOps.Ideal.Laws

@[expose] public section

noncomputable section

namespace Cert.Attention

open Idealize.ShloMosaic

/-- An extended real that is a real number. -/
def IsReal (a : EReal) : Prop := ∃ r : ℝ, a = r

theorem real_of_ne {a : EReal} (h : a ≠ ⊤) (h' : a ≠ ⊥) : IsReal a := ⟨a.toReal, (EReal.coe_toReal h h').symm⟩

/-- A projection of a row: `∑ c, x c · W c + b`. -/
def proj {ι : Type} [Fintype ι] (x W : ι → EReal) (b : EReal) : EReal := (∑ c, x c * W c) + b

/-- The sum of the squares of a row. -/
def squares {ι : Type} [Fintype ι] (t : ι → EReal) : EReal := ∑ e, t e * t e

/-- A row normalised by a reciprocal square root. -/
def byRsqrt {ι : Type} [Fintype ι] (t : ι → EReal) (d : ι) : EReal := t d * Ideal.rsqrt (squares t)

/-- A row divided by its norm. -/
def byNorm {ι : Type} [Fintype ι] (t : ι → EReal) (d : ι) : EReal := Ideal.div (t d) (Ideal.sqrt (squares t))

theorem square_nonneg (a : EReal) : 0 ≤ a * a := by
  induction a using EReal.rec with
  | bot => simp
  | top => simp
  | coe r => exact_mod_cast mul_self_nonneg r

theorem squares_nonneg {ι : Type} [Fintype ι] (t : ι → EReal) : 0 ≤ squares t :=
  Finset.sum_nonneg fun e _ => square_nonneg (t e)

theorem square_le {ι : Type} [Fintype ι] (t : ι → EReal) (d : ι) : t d * t d ≤ squares t :=
  Finset.single_le_sum (f := fun e => t e * t e) (fun e _ => square_nonneg (t e)) (Finset.mem_univ d)

/-- Where the norm is not zero, the two normalisations of a row agree, and the result is finite. -/
theorem normalise {ι : Type} [Fintype ι] (t : ι → EReal) (h : Ideal.sqrt (squares t) ≠ 0) (d : ι) :
    byRsqrt t d = byNorm t d ∧ IsReal (byNorm t d) := by
  unfold byRsqrt byNorm
  have hn := squares_nonneg t
  have hd := square_le t d
  revert h hn hd
  generalize squares t = S
  generalize t d = a
  intro h hn hd
  induction S using EReal.rec with
  | bot => simp at hn
  | top => exact ⟨by simp [Ideal.div], 0, by simp [Ideal.div]⟩
  | coe r =>
    have hr : 0 ≤ r := by exact_mod_cast hn
    have hr0 : r ≠ 0 := by
      rintro rfl
      exact h (by rw [Ideal.sqrt_coe, if_neg (lt_irrefl _), Real.sqrt_zero]; rfl)
    have hs : Real.sqrt r ≠ 0 := (Real.sqrt_ne_zero hr).2 hr0
    induction a using EReal.rec with
    | bot => simp at hd
    | top => simp at hd
    | coe u =>
      have e1 : Ideal.rsqrt (r : EReal) = (((Real.sqrt r)⁻¹ : ℝ) : EReal) := by
        simp [Ideal.rsqrt_coe, not_lt.2 hr, hr0]
      have e2 : Ideal.sqrt (r : EReal) = ((Real.sqrt r : ℝ) : EReal) := by
        simp [Ideal.sqrt_coe, not_lt.2 hr]
      have hs' : ((Real.sqrt r : ℝ) : EReal) ≠ 0 := by exact_mod_cast hs
      rw [e1, e2, Ideal.div, if_neg hs', ← EReal.coe_inv, ← EReal.coe_mul]
      exact ⟨rfl, _, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The keys against the values, with the value projection taken once over the summed products: the sum over the rows moves
    inside the projection. -/
theorem keys_values {ν ι : Type} [Fintype ν] [Fintype ι] (k : ν → EReal) (x : ν → ι → EReal) (W : ι → EReal) (b : EReal)
    (hk : ∀ n, IsReal (k n)) (hx : ∀ n c, IsReal (x n c)) (hW : ∀ c, IsReal (W c)) (hb : IsReal b) :
    (∑ c, (∑ n, k n * x n c) * W c) + (∑ n, k n) * b = ∑ n, k n * proj (x n) W b := by
  choose k' hk using hk
  choose x' hx using hx
  choose W' hW using hW
  obtain ⟨b', rfl⟩ := hb
  simp only [proj, hk, hx, hW, ← EReal.coe_mul, ← coe_sum, ← EReal.coe_add]
  congr 1
  simp only [mul_add, Finset.sum_add_distrib, Finset.sum_mul, Finset.mul_sum]
  rw [Finset.sum_comm]
  congr 1
  exact Finset.sum_congr rfl fun n _ => Finset.sum_congr rfl fun c _ => by ring

/-- The sum of the values of all rows, with the projection taken once over the summed rows. -/
theorem values {ν ι : Type} [Fintype ν] [Fintype ι] (x : ν → ι → EReal) (W : ι → EReal) (b : EReal)
    (hx : ∀ n c, IsReal (x n c)) (hW : ∀ c, IsReal (W c)) (hb : IsReal b) :
    (∑ c, (∑ n, x n c) * W c) + ((Fintype.card ν : ℝ) : EReal) * b = ∑ n, proj (x n) W b := by
  choose x' hx using hx
  choose W' hW using hW
  obtain ⟨b', rfl⟩ := hb
  simp only [proj, hx, hW, ← EReal.coe_mul, ← coe_sum, ← EReal.coe_add]
  congr 1
  simp only [Finset.sum_add_distrib, Finset.sum_mul]
  rw [Finset.sum_comm]
  simp

/-- One branch: a scale over a denominator against the reference's product of the scale's factors with the reciprocal. -/
theorem branch (s w d M : EReal) (hd : d ≠ 0) : Ideal.div (s * w) d * M = s * (M * Ideal.div 1 d) * w := by
  rw [Ideal.div, Ideal.div, if_neg hd, if_neg hd, one_mul]
  ac_rfl

section Stream
variable {ν : Type} [Fintype ν]

/-- Every row projected, then normalised by a reciprocal square root (the kernel's queries and keys). -/
def byRsqrtOf (X : ν → Fin 256 → EReal) (W : Fin 32 → Fin 256 → EReal) (b : Fin 32 → EReal) (n : ν) : Fin 32 → EReal :=
  byRsqrt fun e => proj (X n) (W e) (b e)

/-- Every row projected, then divided by its norm (the reference's queries and keys). -/
def byNormOf (X : ν → Fin 256 → EReal) (W : Fin 32 → Fin 256 → EReal) (b : Fin 32 → EReal) (n : ν) : Fin 32 → EReal :=
  byNorm fun e => proj (X n) (W e) (b e)

/-- The norm of a projected row. -/
def normOf (X : ν → Fin 256 → EReal) (W : Fin 32 → Fin 256 → EReal) (b : Fin 32 → EReal) (n : ν) : EReal :=
  Ideal.sqrt (squares fun e => proj (X n) (W e) (b e))

/-- Keys against values as the kernel has it: the value projection of the summed products of keys and rows. -/
def mat (k : ν → Fin 32 → EReal) (X : ν → Fin 256 → EReal) (W : Fin 256 → Fin 256 → EReal) (b : Fin 256 → EReal) (c : Fin 256) (d : Fin 32) : EReal :=
  (∑ e, (∑ n, k n d * X n e) * W c e) + (∑ n, k n d) * b c

/-- The sum of the values as the kernel has it: the value projection of the summed rows. -/
def val (t : EReal) (X : ν → Fin 256 → EReal) (W : Fin 256 → Fin 256 → EReal) (b : Fin 256 → EReal) (c : Fin 256) : EReal :=
  (∑ e, (∑ n, X n e) * W c e) + t * b c

/-- Keys against values as the reference has it. -/
def matOf (k : ν → Fin 32 → EReal) (X : ν → Fin 256 → EReal) (W : Fin 256 → Fin 256 → EReal) (b : Fin 256 → EReal) (c : Fin 256) (d : Fin 32) : EReal :=
  ∑ n, k n d * proj (X n) (W c) (b c)

/-- The sum of the values as the reference has it. -/
def valOf (X : ν → Fin 256 → EReal) (W : Fin 256 → Fin 256 → EReal) (b : Fin 256 → EReal) (c : Fin 256) : EReal :=
  ∑ n, proj (X n) (W c) (b c)

/-- The sum of the keys with a small constant added. -/
def keySum (ε : EReal) (k : ν → Fin 32 → EReal) (d : Fin 32) : EReal := (∑ n, k n d) + ε

end Stream

/-- The denominator of a branch. -/
def denominator (t : EReal) (q kp : Fin 32 → EReal) : EReal := t + ∑ d, q d * kp d

/-- One branch of a result as the kernel has it: `s / (t + q · kp) · (v + q · m)`. -/
def kernelBranch (s t : EReal) (q kp : Fin 32 → EReal) (v : EReal) (m : Fin 32 → EReal) : EReal :=
  Ideal.div s (denominator t q kp) * (v + ∑ d, q d * m d)

/-- One branch of a result as the reference has it: `g · ((v + m · q) · (1 / (t + q · kp))) · w`. -/
def referenceBranch (g w t : EReal) (q kp : Fin 32 → EReal) (v : EReal) (m : Fin 32 → EReal) : EReal :=
  g * ((v + ∑ d, m d * q d) * Ideal.div 1 (denominator t q kp)) * w

/-- The two forms of a branch agree where the denominator is not zero. -/
theorem branch_eq (g w t : EReal) (q kp : Fin 32 → EReal) (v : EReal) (m : Fin 32 → EReal) (h : denominator t q kp ≠ 0) :
    kernelBranch (g * w) t q kp v m = referenceBranch g w t q kp v m := by
  unfold kernelBranch referenceBranch
  rw [branch _ _ _ _ h]
  simp only [mul_comm (m _)]

/-- Where no norm is zero the two normalisations of all rows agree. -/
theorem byRsqrtOf_eq {ν : Type} (X : ν → Fin 256 → EReal) (W : Fin 32 → Fin 256 → EReal) (b : Fin 32 → EReal)
    (h : ∀ n, normOf X W b n ≠ 0) : byRsqrtOf X W b = byNormOf X W b :=
  funext fun n => funext fun d => (normalise _ (h n) d).1

/-- Where no norm is zero the normalised rows are finite. -/
theorem byNormOf_real {ν : Type} (X : ν → Fin 256 → EReal) (W : Fin 32 → Fin 256 → EReal) (b : Fin 32 → EReal)
    (h : ∀ n, normOf X W b n ≠ 0) (n : ν) (d : Fin 32) : IsReal (byNormOf X W b n d) := (normalise _ (h n) d).2

/-- The two forms of keys against values agree on finite keys, rows and weights. -/
theorem mat_eq_matOf {ν : Type} [Fintype ν] (k : ν → Fin 32 → EReal) (X : ν → Fin 256 → EReal) (W : Fin 256 → Fin 256 → EReal) (b : Fin 256 → EReal)
    (hk : ∀ n d, IsReal (k n d)) (hx : ∀ n c, IsReal (X n c)) (hW : ∀ c e, IsReal (W c e)) (hb : ∀ c, IsReal (b c)) : mat k X W b = matOf k X W b :=
  funext fun c => funext fun d => keys_values (fun n => k n d) X (W c) (b c) (fun n => hk n d) hx (hW c) (hb c)

/-- The two forms of the sum of the values agree on finite rows and weights. -/
theorem val_eq_valOf {ν : Type} [Fintype ν] (t : EReal) (ht : t = ((Fintype.card ν : ℝ) : EReal)) (X : ν → Fin 256 → EReal)
    (W : Fin 256 → Fin 256 → EReal) (b : Fin 256 → EReal)
    (hx : ∀ n c, IsReal (X n c)) (hW : ∀ c e, IsReal (W c e)) (hb : ∀ c, IsReal (b c)) : val t X W b = valOf X W b := by
  subst ht
  exact funext fun c => values X (W c) (b c) hx (hW c) (hb c)

end Cert.Attention
-- ==== Proof.Blocks.lean ====
/- What one block of the kernel computes over extended reals, entry by entry: normalised keys and queries, the terms a block
   adds to the running sums, the finished sums, and an entry of either result's block. -/
module

public import proofs.«01_k».proof.Proof.Invariant
public import proofs.«01_k».proof.Proof.Gen.KernelIdeal
public import proofs.«01_k».proof.Proof.Algebra
public import Idealize.ShloMosaic.Lib.Pointwise

@[expose] public section

set_option maxRecDepth 16384

noncomputable section

namespace Cert.KernelIdeal.Hand

open Cert.KernelIdeal Cert.KernelIdeal.Gen Cert.Attention
open Idealize.ShloMosaic
open VecWindow (window put)

/-- The zeros a batch's running sums start from. -/
theorem z1 (d c) : (k0_pay1 : FVec Ideal S1x32x256 .f32) (ix3 0 d c) = 0 := by pointwise [k0_pay1]
theorem z2 (d c) : (k0_pay2 : FVec Ideal S1x32x256 .f32) (ix3 0 d c) = 0 := by pointwise [k0_pay2]
theorem z3 (d) : (k0_pay3 : FVec Ideal S1x1x32 .f32) (ix3 0 0 d) = 0 := by pointwise [k0_pay3]
theorem z4 (d) : (k0_pay4 : FVec Ideal S1x1x32 .f32) (ix3 0 0 d) = 0 := by pointwise [k0_pay4]
theorem z5 (d) : (k0_pay5 : FVec Ideal S1x1x256 .f32) (ix3 0 0 d) = 0 := by pointwise [k0_pay5]
theorem z6 (d) : (k0_pay6 : FVec Ideal S1x1x256 .f32) (ix3 0 0 d) = 0 := by pointwise [k0_pay6]

/-- A block's keys: each row projected and normalised. -/
theorem key_block (x : Vec Ideal S1x2048x256 .f32) (w : Vec Ideal S32x256 .f32) (b : Vec Ideal S1x32 .f32) (r : Fin 2048) (d : Fin 32) :
    k0_pay12 x w b (ix2 r d) = byRsqrt (fun e => proj (fun c => x (ix3 0 r c)) (fun c => w (ix2 e c)) (b (ix2 0 e))) d := by
  pointwise [k0_pay12, k0_pay11]
  rfl

/-- The second stream's keys, likewise. -/
theorem key_blockY (x : Vec Ideal S1x2048x256 .f32) (w : Vec Ideal S32x256 .f32) (b : Vec Ideal S1x32 .f32) (r : Fin 2048) (d : Fin 32) :
    k0_pay21 (k0_pay18 x) (k0_pay19 w) b (ix2 r d) = byRsqrt (fun e => proj (fun c => x (ix3 0 r c)) (fun c => w (ix2 e c)) (b (ix2 0 e))) d := by
  pointwise [k0_pay21, k0_pay18, k0_pay19]
  rfl

/-- A block's queries: each row projected and normalised. -/
theorem query_block (x : Vec Ideal S1x2048x256 .f32) (w : Vec Ideal S32x256 .f32) (b : Vec Ideal S1x32 .f32) (r : Fin 2048) (d : Fin 32) :
    k0_pay13 x w b (ix3 0 r d) = byRsqrt (fun e => proj (fun c => x (ix3 0 r c)) (fun c => w (ix2 e c)) (b (ix2 0 e))) d := by
  pointwise [k0_pay13, k0_pay11]
  rfl

/-- The second stream's queries, likewise. -/
theorem query_blockY (x : Vec Ideal S1x2048x256 .f32) (w : Vec Ideal S32x256 .f32) (b : Vec Ideal S1x32 .f32) (r : Fin 2048) (d : Fin 32) :
    k0_pay22 (k0_pay20 x w b) (ix3 0 r d) = byRsqrt (fun e => proj (fun c => x (ix3 0 r c)) (fun c => w (ix2 e c)) (b (ix2 0 e))) d := by
  pointwise [k0_pay22, k0_pay20, k0_pay18]
  rfl

/-- A block's part of the running sum of keys against rows. -/
theorem add_m (x : Vec Ideal S1x2048x256 .f32) (w : Vec Ideal S32x256 .f32) (b : Vec Ideal S1x32 .f32) (p) (d : Fin 32) (c : Fin 256) :
    k0_pay15 (k0_pay14 x w b p) (ix3 0 d c) = p (ix3 0 d c) + ∑ r : Fin 2048, k0_pay12 x w b (ix2 r d) * x (ix3 0 r c) := by
  pointwise [k0_pay15, k0_pay14, k0_pay11]

theorem add_mY (x : Vec Ideal S1x2048x256 .f32) (w : Vec Ideal S32x256 .f32) (b : Vec Ideal S1x32 .f32) (p) (d : Fin 32) (c : Fin 256) :
    k0_pay23 (k0_pay18 x) w b p (ix3 0 d c) = p (ix3 0 d c) + ∑ r : Fin 2048, k0_pay21 (k0_pay18 x) w b (ix2 r d) * x (ix3 0 r c) := by
  pointwise [k0_pay23, k0_pay18]

/-- A block's part of the running sum of keys. -/
theorem add_k (k : FVec Ideal S2048x32 .f32) (p) (d : Fin 32) :
    k0_pay16 k p (ix3 0 0 d) = p (ix3 0 0 d) + ∑ r : Fin 2048, k (ix2 r d) := by
  pointwise [k0_pay16]

theorem add_kY (x : FVec Ideal S2048x256 .f32) (w : FVec Ideal S32x256 .f32) (b : Vec Ideal S1x32 .f32) (p) (d : Fin 32) :
    k0_pay24 x w b p (ix3 0 0 d) = p (ix3 0 0 d) + ∑ r : Fin 2048, k0_pay21 x w b (ix2 r d) := by
  pointwise [k0_pay24]

/-- A block's part of the running sum of rows. -/
theorem add_x (x : Vec Ideal S1x2048x256 .f32) (p) (c : Fin 256) :
    k0_pay17 (k0_pay11 x) p (ix3 0 0 c) = p (ix3 0 0 c) + ∑ r : Fin 2048, x (ix3 0 r c) := by
  pointwise [k0_pay17, k0_pay11]

theorem add_xY (x : Vec Ideal S1x2048x256 .f32) (p) (c : Fin 256) :
    k0_pay7 (k0_pay18 x) p (ix3 0 0 c) = p (ix3 0 0 c) + ∑ r : Fin 2048, x (ix3 0 r c) := by
  pointwise [k0_pay7, k0_pay18]

/-- The finished sums: the value projection of keys against rows, and of the rows, and the key sums with the small constant. -/
theorem mat_eq (k : Vec Ideal S1x1x32 .f32) (m : Vec Ideal S1x32x256 .f32) (wv : Vec Ideal S256x256 .f32) (bv : Vec Ideal S1x256 .f32) (d : Fin 32) (c : Fin 256) :
    k0_pay27 k m wv bv (ix2 d c) = (∑ e : Fin 256, m (ix3 0 d e) * wv (ix2 c e)) + k (ix3 0 0 d) * bv (ix2 0 c) := by
  pointwise [k0_pay27, k0_pay25]

theorem mat_eqY (k : Vec Ideal S1x1x32 .f32) (m : Vec Ideal S1x32x256 .f32) (wv : Vec Ideal S256x256 .f32) (bv : Vec Ideal S1x256 .f32) (d : Fin 32) (c : Fin 256) :
    k0_pay28 k m wv bv (ix2 d c) = (∑ e : Fin 256, m (ix3 0 d e) * wv (ix2 c e)) + k (ix3 0 0 d) * bv (ix2 0 c) := by
  pointwise [k0_pay28, k0_pay26]

theorem vs_eq (t : Ideal .f32) (r : Vec Ideal S1x1x256 .f32) (wv : Vec Ideal S256x256 .f32) (bv : Vec Ideal S1x256 .f32) (c : Fin 256) :
    k0_pay32 t (k0_pay29 r wv) bv (ix2 0 c) = (∑ e : Fin 256, r (ix3 0 0 e) * wv (ix2 c e)) + t * bv (ix2 0 c) := by
  pointwise [k0_pay32, k0_pay29]

theorem vs_eqY (t : Ideal .f32) (r : Vec Ideal S1x1x256 .f32) (wv : Vec Ideal S256x256 .f32) (bv : Vec Ideal S1x256 .f32) (c : Fin 256) :
    k0_pay33 t r wv bv (ix2 0 c) = (∑ e : Fin 256, r (ix3 0 0 e) * wv (ix2 c e)) + t * bv (ix2 0 c) := by
  pointwise [k0_pay33]

theorem kp_eq (k : Vec Ideal S1x1x32 .f32) (d : Fin 32) :
    k0_pay34 (k0_pay25 k) (ix2 d 0) = k (ix3 0 0 d) + Ideal.ofBits .f32 0x358637BD#32 := by
  pointwise [k0_pay34, k0_pay25]

theorem kp_eqY (k : Vec Ideal S1x1x32 .f32) (d : Fin 32) :
    k0_pay8 (k0_pay35 (k0_pay26 k)) (ix2 d 0) = k (ix3 0 0 d) + Ideal.ofBits .f32 0x358637BD#32 := by
  pointwise [k0_pay8, k0_pay35, k0_pay26]

/-- Column `c` of the left half, and of the right half, of an array with two halves beside each other. -/
def lft (c : Fin 256) : Fin 512 := ⟨c.val, by omega⟩
def rgt (c : Fin 256) : Fin 512 := ⟨256 + c.val, by omega⟩

/-- The two streams' arrays beside each other, read in either half. -/
theorem cat_l (a b : FVec Ideal S32x256 .f32) (d : Fin 32) (c : Fin 256) : k0_pay30 a b (ix2 d (lft c)) = a (ix2 d c) := by
  pointwise [k0_pay30, lft]
theorem cat_r (a b : FVec Ideal S32x256 .f32) (d : Fin 32) (c : Fin 256) : k0_pay30 a b (ix2 d (rgt c)) = b (ix2 d c) := by
  pointwise [k0_pay30, rgt]
theorem cat_lY (a b : FVec Ideal S32x256 .f32) (d : Fin 32) (c : Fin 256) : k0_pay31 a b (ix2 d (lft c)) = b (ix2 d c) := by
  pointwise [k0_pay31, lft]
theorem cat_rY (a b : FVec Ideal S32x256 .f32) (d : Fin 32) (c : Fin 256) : k0_pay31 a b (ix2 d (rgt c)) = a (ix2 d c) := by
  pointwise [k0_pay31, rgt]

/-- An entry of the first result's block. -/
theorem blockX_eq (I : Ins Ideal) (s : St Ideal) (q : Vec Ideal S1x2048x32 .f32) (r : Fin 2048) (c : Fin 256) :
    blockX I s q (ix3 0 r c) =
      Ideal.div (I.w 0) (rows (F := Ideal) + ∑ d : Fin 32, q (ix3 0 r d) * s.kp (ix2 d 0)) * (s.vx (ix2 0 c) + ∑ d : Fin 32, q (ix3 0 r d) * s.ax (ix2 d (lft c)))
      + Ideal.div (I.w 1) (rows (F := Ideal) + ∑ d : Fin 32, q (ix3 0 r d) * s.kp (ix2 d 1)) * (s.vx (ix2 0 c) + ∑ d : Fin 32, q (ix3 0 r d) * s.ax (ix2 d (rgt c))) := by
  pointwise [blockX, k0_pay9, k0_pay40, k0_pay41, k0_pay44, k0_pay38, k0_pay36]
  rfl

/-- An entry of the second result's block. -/
theorem blockY_eq (I : Ins Ideal) (s : St Ideal) (q : Vec Ideal S1x2048x32 .f32) (r : Fin 2048) (c : Fin 256) :
    blockY I s q (ix3 0 r c) =
      Ideal.div (I.w 2) (rows (F := Ideal) + ∑ d : Fin 32, q (ix3 0 r d) * s.kp (ix2 d 1)) * (s.vy (ix2 0 c) + ∑ d : Fin 32, q (ix3 0 r d) * s.ay (ix2 d (lft c)))
      + Ideal.div (I.w 3) (rows (F := Ideal) + ∑ d : Fin 32, q (ix3 0 r d) * s.kp (ix2 d 0)) * (s.vy (ix2 0 c) + ∑ d : Fin 32, q (ix3 0 r d) * s.ay (ix2 d (rgt c))) := by
  pointwise [blockY, k0_pay10, k0_pay42, k0_pay43, k0_pay45, k0_pay39, k0_pay37]
  rfl

end Cert.KernelIdeal.Hand
-- ==== Proof.Totals.lean ====
/- The finished sums of a batch over extended reals, and with them an entry of either result: the blocks' terms added up are
   sums over all of the batch's rows. -/
module

public import proofs.«01_k».proof.Proof.Blocks
public import Idealize.ShloMosaic.Lib.Pipeline.ValueKit

@[expose] public section

set_option maxRecDepth 16384

noncomputable section

namespace Cert.KernelIdeal.Hand

open Cert.KernelIdeal Cert.KernelIdeal.Gen Cert.Attention
open Idealize.ShloMosaic
open VecWindow (window put)

/-- The number of rows. -/
theorem rows_eq : (rows (F := Ideal) : EReal) = ((Fintype.card (Fin 16384) : ℝ) : EReal) := by
  show Ideal.ofBits .f32 0x46800000#32 = _
  simp [Ideal.ofBits, Ideal.ieee]
  rw [← EReal.coe_mul]
  norm_num

/-- Row `r` of block `j`. -/
def rowOf (j : Fin 8) (r : Fin 2048) : Fin 16384 := ⟨j.val * 2048 + r.val, by omega⟩

/-- The batch's rows, cut into blocks. -/
def Cut (x : ℕ → S1x2048x256.Idx → Elt Ideal .f32) (X : Fin 16384 → Fin 256 → EReal) : Prop :=
  ∀ (j : Fin 8) (r : Fin 2048) (c : Fin 256), x j.val (ix3 0 r c) = X (rowOf j r) c

/-- A sum over the rows, block by block. -/
theorem sum_rows (f : Fin 16384 → EReal) (g : ℕ → EReal) (h : ∀ j : Fin 8, g j.val = ∑ r : Fin 2048, f (rowOf j r)) :
    ∑ j ∈ Finset.range 8, g j = ∑ n, f n := by
  rw [Finset.sum_range, ← Fin.sum_mul_add_fin 8 2048 f]
  exact Finset.sum_congr rfl fun j _ => h j

section
variable (W : Ins Ideal) (x y : ℕ → S1x2048x256.Idx → Elt Ideal .f32)

theorem sums_mx (n : ℕ) (d : Fin 32) (c : Fin 256) : (sums W x y n).mx (ix3 0 d c)
    = ∑ j ∈ Finset.range n, ∑ r : Fin 2048, k0_pay12 (x j) W.wk W.bk (ix2 r d) * x j (ix3 0 r c) := by
  induction n with
  | zero => exact (z1 d c).trans (Finset.sum_range_zero _).symm
  | succ n ih => rw [Finset.sum_range_succ, ← ih]; exact add_m _ _ _ _ d c

theorem sums_my (n : ℕ) (d : Fin 32) (c : Fin 256) : (sums W x y n).my (ix3 0 d c)
    = ∑ j ∈ Finset.range n, ∑ r : Fin 2048, k0_pay21 (k0_pay18 (y j)) (k0_pay19 W.wky) W.bky (ix2 r d) * y j (ix3 0 r c) := by
  induction n with
  | zero => exact (z2 d c).trans (Finset.sum_range_zero _).symm
  | succ n ih => rw [Finset.sum_range_succ, ← ih]; exact add_mY _ _ _ _ d c

theorem sums_kx (n : ℕ) (d : Fin 32) : (sums W x y n).kx (ix3 0 0 d)
    = ∑ j ∈ Finset.range n, ∑ r : Fin 2048, k0_pay12 (x j) W.wk W.bk (ix2 r d) := by
  induction n with
  | zero => exact (z3 d).trans (Finset.sum_range_zero _).symm
  | succ n ih => rw [Finset.sum_range_succ, ← ih]; exact add_k _ _ d

theorem sums_ky (n : ℕ) (d : Fin 32) : (sums W x y n).ky (ix3 0 0 d)
    = ∑ j ∈ Finset.range n, ∑ r : Fin 2048, k0_pay21 (k0_pay18 (y j)) (k0_pay19 W.wky) W.bky (ix2 r d) := by
  induction n with
  | zero => exact (z4 d).trans (Finset.sum_range_zero _).symm
  | succ n ih => rw [Finset.sum_range_succ, ← ih]; exact add_kY _ _ _ _ d

theorem sums_xx (n : ℕ) (c : Fin 256) : (sums W x y n).xx (ix3 0 0 c) = ∑ j ∈ Finset.range n, ∑ r : Fin 2048, x j (ix3 0 r c) := by
  induction n with
  | zero => exact (z5 c).trans (Finset.sum_range_zero _).symm
  | succ n ih => rw [Finset.sum_range_succ, ← ih]; exact add_x _ _ c

theorem sums_xy (n : ℕ) (c : Fin 256) : (sums W x y n).xy (ix3 0 0 c) = ∑ j ∈ Finset.range n, ∑ r : Fin 2048, y j (ix3 0 r c) := by
  induction n with
  | zero => exact (z6 c).trans (Finset.sum_range_zero _).symm
  | succ n ih => rw [Finset.sum_range_succ, ← ih]; exact add_xY _ _ c

end

/-- Two columns beside each other, read in either. -/
theorem columns_0 (a b : Vec Ideal S32x1 .f32) (d : Fin 32) : columns a b (ix2 d 0) = a (ix2 d 0) := by
  unfold columns
  have h : ¬ ∀ k, (![0, 1] : Fin 2 → ℕ) k ≤ ((ix2 d 0 : S32x2.Idx) k).val ∧ ((ix2 d 0 : S32x2.Idx) k).val < (![0, 1] : Fin 2 → ℕ) k + S32x1.size k :=
    fun h => absurd (h 1).1 (by show ¬ 1 ≤ 0; omega)
  have h' : ∀ k, (![0, 0] : Fin 2 → ℕ) k ≤ ((ix2 d 0 : S32x2.Idx) k).val ∧ ((ix2 d 0 : S32x2.Idx) k).val < (![0, 0] : Fin 2 → ℕ) k + S32x1.size k := fun k => match k with
    | 0 => ⟨Nat.zero_le _, by show d.val < 0 + 32; omega⟩
    | 1 => ⟨Nat.zero_le _, by show 0 < 0 + 1; omega⟩
  have e : ∀ z : S32x2.Idx → Elt Ideal .f32, put z ![0, 1] S32x1.size b (ix2 d 0) = z (ix2 d 0) := fun z => dif_neg h
  have e' : ∀ z : S32x2.Idx → Elt Ideal .f32, put z ![0, 0] S32x1.size a (ix2 d 0) = a (Rect.unitLocal (s := S32x2) (off := ![0, 0]) (size := S32x1.size) (ix2 d 0) h') := fun z => dif_pos h'
  rw [e, e']
  refine congrArg a (funext fun k => Fin.ext ?_)
  match k with
  | 0 => rfl
  | 1 => rfl

theorem columns_1 (a b : Vec Ideal S32x1 .f32) (d : Fin 32) : columns a b (ix2 d 1) = b (ix2 d 0) := by
  unfold columns
  have h' : ∀ k, (![0, 1] : Fin 2 → ℕ) k ≤ ((ix2 d 1 : S32x2.Idx) k).val ∧ ((ix2 d 1 : S32x2.Idx) k).val < (![0, 1] : Fin 2 → ℕ) k + S32x1.size k := fun k => match k with
    | 0 => ⟨Nat.zero_le _, by show d.val < 0 + 32; omega⟩
    | 1 => ⟨by show 1 ≤ 1; omega, by show 1 < 1 + 1; omega⟩
  have e' : ∀ z : S32x2.Idx → Elt Ideal .f32, put z ![0, 1] S32x1.size b (ix2 d 1) = b (Rect.unitLocal (s := S32x2) (off := ![0, 1]) (size := S32x1.size) (ix2 d 1) h') := fun z => dif_pos h'
  rw [e']
  refine congrArg b (funext fun k => Fin.ext ?_)
  match k with
  | 0 => rfl
  | 1 => rfl

section
variable {W : Ins Ideal} {x y : ℕ → S1x2048x256.Idx → Elt Ideal .f32} {X Y : Fin 16384 → Fin 256 → EReal}

/-- A weight or bias block's entries. -/
def ent (w : Vec Ideal S32x256 .f32) (e : Fin 32) (c : Fin 256) : EReal := w (ix2 e c)
def entV (w : Vec Ideal S256x256 .f32) (e : Fin 256) (c : Fin 256) : EReal := w (ix2 e c)
def row (b : Vec Ideal S1x32 .f32) (e : Fin 32) : EReal := b (ix2 0 e)
def rowV (b : Vec Ideal S1x256 .f32) (e : Fin 256) : EReal := b (ix2 0 e)

/-- The keys of either stream. -/
def kX (W : Ins Ideal) (X : Fin 16384 → Fin 256 → EReal) : Fin 16384 → Fin 32 → EReal := byRsqrtOf X (ent W.wk) (row W.bk)
def kY (W : Ins Ideal) (Y : Fin 16384 → Fin 256 → EReal) : Fin 16384 → Fin 32 → EReal := byRsqrtOf Y (ent W.wky) (row W.bky)

theorem keyX (hx : Cut x X) (j : Fin 8) (r : Fin 2048) (d : Fin 32) : k0_pay12 (x j.val) W.wk W.bk (ix2 r d) = kX W X (rowOf j r) d := by
  rw [key_block]
  simp only [hx j r]
  rfl

theorem keyY (hy : Cut y Y) (j : Fin 8) (r : Fin 2048) (d : Fin 32) :
    k0_pay21 (k0_pay18 (y j.val)) (k0_pay19 W.wky) W.bky (ix2 r d) = kY W Y (rowOf j r) d := by
  rw [key_blockY]
  simp only [hy j r]
  rfl

theorem queryX (hx : Cut x X) (j : Fin 8) (r : Fin 2048) (d : Fin 32) :
    qX (W.at (x j.val) (y j.val)) (ix3 0 r d) = byRsqrtOf X (ent W.wq) (row W.bq) (rowOf j r) d := by
  refine (query_block (x j.val) W.wq W.bq r d).trans ?_
  simp only [hx j r]
  rfl

theorem queryY (hy : Cut y Y) (j : Fin 8) (r : Fin 2048) (d : Fin 32) :
    qY (W.at (x j.val) (y j.val)) (ix3 0 r d) = byRsqrtOf Y (ent W.wqy) (row W.bqy) (rowOf j r) d := by
  refine (query_blockY (y j.val) W.wqy W.bqy r d).trans ?_
  simp only [hy j r]
  rfl

theorem total_mx (hx : Cut x X) (d : Fin 32) (c : Fin 256) : (sums W x y 8).mx (ix3 0 d c) = ∑ n, kX W X n d * X n c := by
  rw [sums_mx]
  exact sum_rows (fun n => kX W X n d * X n c) _ fun j => Finset.sum_congr rfl fun r _ => by rw [keyX hx, hx]

theorem total_my (hy : Cut y Y) (d : Fin 32) (c : Fin 256) : (sums W x y 8).my (ix3 0 d c) = ∑ n, kY W Y n d * Y n c := by
  rw [sums_my]
  exact sum_rows (fun n => kY W Y n d * Y n c) _ fun j => Finset.sum_congr rfl fun r _ => by rw [keyY hy, hy]

theorem total_kx (hx : Cut x X) (d : Fin 32) : (sums W x y 8).kx (ix3 0 0 d) = ∑ n, kX W X n d := by
  rw [sums_kx]
  exact sum_rows (fun n => kX W X n d) _ fun j => Finset.sum_congr rfl fun r _ => by rw [keyX hx]

theorem total_ky (hy : Cut y Y) (d : Fin 32) : (sums W x y 8).ky (ix3 0 0 d) = ∑ n, kY W Y n d := by
  rw [sums_ky]
  exact sum_rows (fun n => kY W Y n d) _ fun j => Finset.sum_congr rfl fun r _ => by rw [keyY hy]

theorem total_xx (hx : Cut x X) (c : Fin 256) : (sums W x y 8).xx (ix3 0 0 c) = ∑ n, X n c := by
  rw [sums_xx]
  exact sum_rows (fun n => X n c) _ fun j => Finset.sum_congr rfl fun r _ => by rw [hx]

theorem total_xy (hy : Cut y Y) (c : Fin 256) : (sums W x y 8).xy (ix3 0 0 c) = ∑ n, Y n c := by
  rw [sums_xy]
  exact sum_rows (fun n => Y n c) _ fun j => Finset.sum_congr rfl fun r _ => by rw [hy]

/-- The small constant added to the key sums. -/
def eps : EReal := Ideal.ofBits .f32 0x358637BD#32

theorem done_kp0 (hx : Cut x X) (s : St Ideal) (d : Fin 32) : (done W x y s).kp (ix2 d 0) = keySum eps (kX W X) d :=
  (columns_0 _ _ d).trans ((kp_eq _ d).trans (by rw [total_kx hx]; rfl))
theorem done_kp1 (hy : Cut y Y) (s : St Ideal) (d : Fin 32) : (done W x y s).kp (ix2 d 1) = keySum eps (kY W Y) d :=
  (columns_1 _ _ d).trans ((kp_eqY _ d).trans (by rw [total_ky hy]; rfl))

theorem made_x (hx : Cut x X) (d : Fin 32) (c : Fin 256) :
    k0_pay27 (sums W x y 8).kx (sums W x y 8).mx W.wv W.bv (ix2 d c) = mat (kX W X) X (entV W.wv) (rowV W.bv) c d := by
  rw [mat_eq, total_kx hx]
  simp only [total_mx hx]
  rfl
theorem made_y (hy : Cut y Y) (d : Fin 32) (c : Fin 256) :
    k0_pay28 (sums W x y 8).ky (sums W x y 8).my W.wvy W.bvy (ix2 d c) = mat (kY W Y) Y (entV W.wvy) (rowV W.bvy) c d := by
  rw [mat_eqY, total_ky hy]
  simp only [total_my hy]
  rfl

theorem done_axl (hx : Cut x X) (s : St Ideal) (d : Fin 32) (c : Fin 256) : (done W x y s).ax (ix2 d (lft c)) = mat (kX W X) X (entV W.wv) (rowV W.bv) c d :=
  (cat_l _ _ d c).trans (made_x hx d c)
theorem done_axr (hy : Cut y Y) (s : St Ideal) (d : Fin 32) (c : Fin 256) : (done W x y s).ax (ix2 d (rgt c)) = mat (kY W Y) Y (entV W.wvy) (rowV W.bvy) c d :=
  (cat_r _ _ d c).trans (made_y hy d c)
theorem done_ayl (hy : Cut y Y) (s : St Ideal) (d : Fin 32) (c : Fin 256) : (done W x y s).ay (ix2 d (lft c)) = mat (kY W Y) Y (entV W.wvy) (rowV W.bvy) c d :=
  (cat_lY _ _ d c).trans (made_y hy d c)
theorem done_ayr (hx : Cut x X) (s : St Ideal) (d : Fin 32) (c : Fin 256) : (done W x y s).ay (ix2 d (rgt c)) = mat (kX W X) X (entV W.wv) (rowV W.bv) c d :=
  (cat_rY _ _ d c).trans (made_x hx d c)

theorem done_vx (hx : Cut x X) (s : St Ideal) (c : Fin 256) : (done W x y s).vx (ix2 0 c) = val (rows (F := Ideal)) X (entV W.wv) (rowV W.bv) c := by
  refine (vs_eq _ _ _ _ c).trans ?_
  simp only [total_xx hx]
  rfl
theorem done_vy (hy : Cut y Y) (s : St Ideal) (c : Fin 256) : (done W x y s).vy (ix2 0 c) = val (rows (F := Ideal)) Y (entV W.wvy) (rowV W.bvy) c := by
  refine (vs_eqY _ _ _ _ c).trans ?_
  simp only [total_xy hy]
  rfl

/-- An entry of the first result: two branches, against the first stream's sums and against the second's. -/
theorem resX_eq (hx : Cut x X) (hy : Cut y Y) (j : Fin 8) (r : Fin 2048) (c : Fin 256) :
    resX W x y j.val (ix3 0 r c) =
      kernelBranch (W.w 0) (rows (F := Ideal)) (byRsqrtOf X (ent W.wq) (row W.bq) (rowOf j r)) (keySum eps (kX W X))
        (val (rows (F := Ideal)) X (entV W.wv) (rowV W.bv) c) (mat (kX W X) X (entV W.wv) (rowV W.bv) c)
      + kernelBranch (W.w 1) (rows (F := Ideal)) (byRsqrtOf X (ent W.wq) (row W.bq) (rowOf j r)) (keySum eps (kY W Y))
        (val (rows (F := Ideal)) X (entV W.wv) (rowV W.bv) c) (mat (kY W Y) Y (entV W.wvy) (rowV W.bvy) c) := by
  unfold resX
  rw [blockX_eq, done_vx hx]
  simp only [queryX hx, done_kp0 hx, done_kp1 hy, done_axl hx, done_axr hy]
  rfl

/-- An entry of the second result: two branches, against the second stream's sums and against the first's. -/
theorem resY_eq (hx : Cut x X) (hy : Cut y Y) (j : Fin 8) (r : Fin 2048) (c : Fin 256) :
    resY W x y j.val (ix3 0 r c) =
      kernelBranch (W.w 2) (rows (F := Ideal)) (byRsqrtOf Y (ent W.wqy) (row W.bqy) (rowOf j r)) (keySum eps (kY W Y))
        (val (rows (F := Ideal)) Y (entV W.wvy) (rowV W.bvy) c) (mat (kY W Y) Y (entV W.wvy) (rowV W.bvy) c)
      + kernelBranch (W.w 3) (rows (F := Ideal)) (byRsqrtOf Y (ent W.wqy) (row W.bqy) (rowOf j r)) (keySum eps (kX W X))
        (val (rows (F := Ideal)) Y (entV W.wvy) (rowV W.bvy) c) (mat (kX W X) X (entV W.wv) (rowV W.bv) c) := by
  unfold resY
  rw [blockY_eq, done_vy hy]
  simp only [queryY hy, done_kp0 hx, done_kp1 hy, done_ayl hy, done_ayr hx]
  rfl

end

end Cert.KernelIdeal.Hand
-- ==== Proof.Reference.lean ====
/- What the reference's stages hold, at coordinates: projections, normalised queries and keys, their sums, and the four branches. -/
module

public import proofs.«01_k».proof.Proof.Gen.ReferenceIdeal.Read
public import proofs.«01_k».proof.Proof.Algebra
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Attention
open Idealize.ShloMosaic Idealize.ShloMosaic.TcCoe

/-- One batch's rows, a matrix and a vector, by coordinates. -/
def rowsOf (x : S8x16384x256.Idx → EReal) (bt : Fin 8) (n : Fin 16384) (c : Fin 256) : EReal := x (ix3 bt n c)
def mtx (w : S32x256.Idx → EReal) (e : Fin 32) (c : Fin 256) : EReal := w (ix2 e c)
def mtxV (w : S256x256.Idx → EReal) (e c : Fin 256) : EReal := w (ix2 e c)
def vec (b : S32.Idx → EReal) (e : Fin 32) : EReal := b (ix1 e)
def vecV (b : S256.Idx → EReal) (e : Fin 256) : EReal := b (ix1 e)

/-- The small constant added to the sum of the keys, and the number of rows. -/
def tiny : EReal := Ideal.ofBits .f32 0x358637BD#32
def total : EReal := Ideal.ofBits .f32 0x46800000#32

theorem one_eq : Ideal.ofBits .f32 0x3F800000#32 = 1 := by
  simp [Ideal.ofBits, Ideal.ieee]
  rw [← EReal.coe_mul]
  norm_num

variable (x y : S8x16384x256.Idx → EReal) (w w' : S32x256.Idx → EReal) (b b' : S32.Idx → EReal)
  (wv : S256x256.Idx → EReal) (bv : S256.Idx → EReal)

theorem projection (bt : Fin 8) (e : Fin 32) (n : Fin 16384) :
    val_main_v6 (F := Ideal) x w b (ix3 bt e n) = proj (rowsOf x bt n) (mtx w e) (vec b e) := by
  pointwise [val_main_v6, val_main_v5, val_main_v4, val_main_v3, val_main_v2, val_main_v0]
  rfl

theorem value (bt : Fin 8) (e : Fin 256) (n : Fin 16384) :
    val_main_v22 (F := Ideal) x wv bv (ix3 bt e n) = proj (rowsOf x bt n) (mtxV wv e) (vecV bv e) := by
  pointwise [val_main_v22, val_main_v21, val_main_v20, val_main_v19, val_main_v18, val_main_v0]
  rfl

theorem norm (bt : Fin 8) (n : Fin 16384) :
    val_main_v7 (F := Ideal) x w b (ix3 bt 0 n) = normOf (rowsOf x bt) (mtx w) (vec b) n := by
  pointwise [val_main_v7, val_main_call0_v2, val_main_call0_v1, val_main_call0_v0, val_main_call0_cst]
  simp only [projection]
  rfl

theorem normalised (bt : Fin 8) (e : Fin 32) (n : Fin 16384) :
    val_main_v9 (F := Ideal) x w b (ix3 bt e n) = byNormOf (rowsOf x bt) (mtx w) (vec b) n e := by
  pointwise [val_main_v9, val_main_v8]
  simp only [projection, norm]
  rfl

theorem query (bt : Fin 8) (n : Fin 16384) (e : Fin 32) :
    val_main_v44 (F := Ideal) x w b (ix3 bt n e) = byNormOf (rowsOf x bt) (mtx w) (vec b) n e := by
  pointwise [val_main_v44]
  simp only [normalised]

theorem key_eq : val_main_v17 (F := Ideal) x w b = val_main_v9 (F := Ideal) x w b := rfl

theorem key_sum (bt : Fin 8) (d : Fin 32) :
    val_main_v48 (F := Ideal) x w b (ix2 bt d) = keySum tiny (byNormOf (rowsOf x bt) (mtx w) (vec b)) d := by
  pointwise [val_main_v48, val_main_v47, val_main_v46, val_main_cst, val_main_cst_0]
  simp only [key_eq, normalised]
  rfl

theorem value_sum (bt : Fin 8) (c : Fin 256) :
    val_main_v52 (F := Ideal) x wv bv (ix2 bt c) = valOf (rowsOf x bt) (mtxV wv) (vecV bv) c := by
  pointwise [val_main_v52, val_main_cst_3]
  simp only [value]
  rfl

theorem matrix (bt : Fin 8) (d : Fin 32) (c : Fin 256) :
    val_main_v54 (F := Ideal) x w b wv bv (ix3 bt d c)
      = matOf (byNormOf (rowsOf x bt) (mtx w) (vec b)) (rowsOf x bt) (mtxV wv) (vecV bv) c d := by
  pointwise [val_main_v54]
  simp only [key_eq, normalised, value]
  rfl

end Cert.ReferenceIdeal.Hand
-- ==== Proof.Branches.lean ====
/- The four branches of the reference's two results, at coordinates. -/
module

public import proofs.«01_k».proof.Proof.Reference

@[expose] public section

set_option maxRecDepth 16384
set_option maxHeartbeats 1000000

noncomputable section

namespace Cert.ReferenceIdeal.Hand

open Cert.ReferenceIdeal Cert.ReferenceIdeal.Gen Cert.ReferenceIdeal.Read Cert.Attention
open Idealize.ShloMosaic Idealize.ShloMosaic.TcCoe

variable (x y : S8x16384x256.Idx → EReal) (wq wk wqy wky : S32x256.Idx → EReal) (bq bk bqy bky : S32.Idx → EReal)
  (wv wvy : S256x256.Idx → EReal) (bv bvy : S256.Idx → EReal) (g : S1.Idx → EReal) (p : S_.Idx → EReal)

/-- The queries or keys of a batch, the sum of its values, and its keys against its values. -/
abbrev heads (x : S8x16384x256.Idx → EReal) (w : S32x256.Idx → EReal) (b : S32.Idx → EReal) (bt : Fin 8) : Fin 16384 → Fin 32 → EReal :=
  byNormOf (rowsOf x bt) (mtx w) (vec b)
abbrev sumOf (x : S8x16384x256.Idx → EReal) (wv : S256x256.Idx → EReal) (bv : S256.Idx → EReal) (bt : Fin 8) (c : Fin 256) : EReal :=
  valOf (rowsOf x bt) (mtxV wv) (vecV bv) c
abbrev against (x : S8x16384x256.Idx → EReal) (w : S32x256.Idx → EReal) (b : S32.Idx → EReal) (wv : S256x256.Idx → EReal) (bv : S256.Idx → EReal)
    (bt : Fin 8) (c : Fin 256) : Fin 32 → EReal :=
  matOf (heads x w b bt) (rowsOf x bt) (mtxV wv) (vecV bv) c

/-! ## The second stream's stages are the first's, of the second stream's arguments -/

theorem query_y : val_main_v45 (F := Ideal) y wqy bqy = val_main_v44 (F := Ideal) y wqy bqy := rfl
theorem key_sum_y : val_main_v51 (F := Ideal) y wky bky = val_main_v48 (F := Ideal) y wky bky := rfl
theorem value_sum_y : val_main_v53 (F := Ideal) y wvy bvy = val_main_v52 (F := Ideal) y wvy bvy := rfl
theorem matrix_y : val_main_v55 (F := Ideal) y wky bky wvy bvy = val_main_v54 (F := Ideal) y wky bky wvy bvy := rfl

/-! ## The denominators -/

theorem denominator_xx (bt : Fin 8) (n : Fin 16384) : val_main_v58 (F := Ideal) x wq bq wk bk (ix2 bt n)
    = denominator total (heads x wq bq bt n) (keySum tiny (heads x wk bk bt)) := by
  pointwise [val_main_v58, val_main_v57, val_main_v56, val_main_cst_5]
  simp only [query, query_y, key_sum, key_sum_y, value_sum, value_sum_y, matrix, matrix_y]
  rfl

theorem denominator_yy (bt : Fin 8) (n : Fin 16384) : val_main_v73 (F := Ideal) y wqy bqy wky bky (ix2 bt n)
    = denominator total (heads y wqy bqy bt n) (keySum tiny (heads y wky bky bt)) := by
  pointwise [val_main_v73, val_main_v72, val_main_v71, val_main_cst_7]
  simp only [query, query_y, key_sum, key_sum_y, value_sum, value_sum_y, matrix, matrix_y]
  rfl

theorem denominator_xy (bt : Fin 8) (n : Fin 16384) : val_main_v88 (F := Ideal) x y wq bq wky bky (ix2 bt n)
    = denominator total (heads x wq bq bt n) (keySum tiny (heads y wky bky bt)) := by
  pointwise [val_main_v88, val_main_v87, val_main_v86, val_main_cst_9]
  simp only [query, query_y, key_sum, key_sum_y, value_sum, value_sum_y, matrix, matrix_y]
  rfl

theorem denominator_yx (bt : Fin 8) (n : Fin 16384) : val_main_v103 (F := Ideal) x y wk bk wqy bqy (ix2 bt n)
    = denominator total (heads y wqy bqy bt n) (keySum tiny (heads x wk bk bt)) := by
  pointwise [val_main_v103, val_main_v102, val_main_v101, val_main_cst_11]
  simp only [query, query_y, key_sum, key_sum_y, value_sum, value_sum_y, matrix, matrix_y]
  rfl

/-! ## The branches -/

theorem branch_xx (bt : Fin 8) (c : Fin 256) (n : Fin 16384) : val_main_v117 (F := Ideal) x wq bq wk bk wv bv g p (ix3 bt c n)
    = referenceBranch (g (ix1 0)) (p ix0) total (heads x wq bq bt n) (keySum tiny (heads x wk bk bt))
        (sumOf x wv bv bt c) (against x wk bk wv bv bt c) := by
  pointwise [val_main_v59, val_main_v60, val_main_v61, val_main_v62, val_main_v63, val_main_v64, val_main_v65, val_main_v66, val_main_v67, val_main_v68, val_main_v69, val_main_v70, val_main_v116, val_main_v117, val_main_cst_6]
  simp only [query, query_y, key_sum, key_sum_y, value_sum, value_sum_y, matrix, matrix_y, denominator_xx]
  unfold referenceBranch
  rw [← one_eq]

theorem branch_yy (bt : Fin 8) (c : Fin 256) (n : Fin 16384) : val_main_v123 (F := Ideal) y wqy bqy wky bky wvy bvy g p (ix3 bt c n)
    = referenceBranch (g (ix1 0)) (p ix0) total (heads y wqy bqy bt n) (keySum tiny (heads y wky bky bt))
        (sumOf y wvy bvy bt c) (against y wky bky wvy bvy bt c) := by
  pointwise [val_main_v74, val_main_v75, val_main_v76, val_main_v77, val_main_v78, val_main_v79, val_main_v80, val_main_v81, val_main_v82, val_main_v83, val_main_v84, val_main_v85, val_main_v122, val_main_v123, val_main_cst_8]
  simp only [query, query_y, key_sum, key_sum_y, value_sum, value_sum_y, matrix, matrix_y, denominator_yy]
  unfold referenceBranch
  rw [← one_eq]

theorem branch_xy (bt : Fin 8) (c : Fin 256) (n : Fin 16384) : val_main_v119 (F := Ideal) x y wq bq wv bv wky bky wvy bvy g p (ix3 bt c n)
    = referenceBranch (g (ix1 0)) (p ix0) total (heads x wq bq bt n) (keySum tiny (heads y wky bky bt))
        (sumOf x wv bv bt c) (against y wky bky wvy bvy bt c) := by
  pointwise [val_main_v89, val_main_v90, val_main_v91, val_main_v92, val_main_v93, val_main_v94, val_main_v95, val_main_v96, val_main_v97, val_main_v98, val_main_v99, val_main_v100, val_main_v118, val_main_v119, val_main_cst_10]
  simp only [query, query_y, key_sum, key_sum_y, value_sum, value_sum_y, matrix, matrix_y, denominator_xy]
  unfold referenceBranch
  rw [← one_eq]

theorem branch_yx (bt : Fin 8) (c : Fin 256) (n : Fin 16384) : val_main_v125 (F := Ideal) x y wk bk wv bv wqy bqy wvy bvy g p (ix3 bt c n)
    = referenceBranch (g (ix1 0)) (p ix0) total (heads y wqy bqy bt n) (keySum tiny (heads x wk bk bt))
        (sumOf y wvy bvy bt c) (against x wk bk wv bv bt c) := by
  pointwise [val_main_v104, val_main_v105, val_main_v106, val_main_v107, val_main_v108, val_main_v109, val_main_v110, val_main_v111, val_main_v112, val_main_v113, val_main_v114, val_main_v115, val_main_v124, val_main_v125, val_main_cst_12]
  simp only [query, query_y, key_sum, key_sum_y, value_sum, value_sum_y, matrix, matrix_y, denominator_yx]
  unfold referenceBranch
  rw [← one_eq]

/-! ## The two results -/

variable (g' : S1.Idx → EReal) (p' : S_.Idx → EReal)

theorem result_x (bt : Fin 8) (n : Fin 16384) (c : Fin 256) :
    val_main_v121 (F := Ideal) x y wq bq wk bk wv bv wky bky wvy bvy g g' p p' (ix3 bt n c)
    = referenceBranch (g (ix1 0)) (p ix0) total (heads x wq bq bt n) (keySum tiny (heads x wk bk bt)) (sumOf x wv bv bt c) (against x wk bk wv bv bt c)
      + referenceBranch (g' (ix1 0)) (p' ix0) total (heads x wq bq bt n) (keySum tiny (heads y wky bky bt)) (sumOf x wv bv bt c) (against y wky bky wvy bvy bt c) := by
  pointwise [val_main_v121, val_main_v120]
  simp only [branch_xx, branch_xy]

theorem result_y (bt : Fin 8) (n : Fin 16384) (c : Fin 256) :
    val_main_v127 (F := Ideal) x y wk bk wv bv wqy bqy wky bky wvy bvy g g' p p' (ix3 bt n c)
    = referenceBranch (g (ix1 0)) (p ix0) total (heads y wqy bqy bt n) (keySum tiny (heads y wky bky bt)) (sumOf y wvy bvy bt c) (against y wky bky wvy bvy bt c)
      + referenceBranch (g' (ix1 0)) (p' ix0) total (heads y wqy bqy bt n) (keySum tiny (heads x wk bk bt)) (sumOf y wvy bvy bt c) (against x wk bk wv bv bt c) := by
  pointwise [val_main_v127, val_main_v126]
  simp only [branch_yy, branch_yx]

end Cert.ReferenceIdeal.Hand
-- ==== Proof.Precondition.lean ====
/- What the precondition says: the rows and the value weights are finite, and no norm and no denominator is zero. -/
module

public import proofs.«01_k».proof.Proof.Branches
public import proofs.«01_k».proof.Proof.Gen.Pre_well_defined

@[expose] public section

set_option maxRecDepth 16384
set_option maxHeartbeats 1000000

noncomputable section

namespace Cert.ReferenceIdeal.Hand

open Cert.ReferenceIdeal Cert.ReferenceIdeal.Gen Cert.ReferenceIdeal.Read Cert.Attention
open Idealize.ShloMosaic Idealize.ShloMosaic.TcCoe

variable (x y : S8x16384x256.Idx → EReal) (wq wk wqy wky : S32x256.Idx → EReal) (bq bk bqy bky : S32.Idx → EReal)
  (wv wvy : S256x256.Idx → EReal) (bv bvy : S256.Idx → EReal) (g g' g2 g3 : S1.Idx → EReal) (p p' p2 p3 : S_.Idx → EReal)

/-- The precondition as facts about entries. -/
structure WellDefined : Prop where
  x_real : ∀ bt n c, IsReal (rowsOf x bt n c)
  y_real : ∀ bt n c, IsReal (rowsOf y bt n c)
  wv_real : ∀ e c, IsReal (mtxV wv e c)
  bv_real : ∀ e, IsReal (vecV bv e)
  wvy_real : ∀ e c, IsReal (mtxV wvy e c)
  bvy_real : ∀ e, IsReal (vecV bvy e)
  q_norm : ∀ bt n, normOf (rowsOf x bt) (mtx wq) (vec bq) n ≠ 0
  k_norm : ∀ bt n, normOf (rowsOf x bt) (mtx wk) (vec bk) n ≠ 0
  qy_norm : ∀ bt n, normOf (rowsOf y bt) (mtx wqy) (vec bqy) n ≠ 0
  ky_norm : ∀ bt n, normOf (rowsOf y bt) (mtx wky) (vec bky) n ≠ 0
  xx : ∀ bt n, denominator total (heads x wq bq bt n) (keySum tiny (heads x wk bk bt)) ≠ 0
  xy : ∀ bt n, denominator total (heads x wq bq bt n) (keySum tiny (heads y wky bky bt)) ≠ 0
  yy : ∀ bt n, denominator total (heads y wqy bqy bt n) (keySum tiny (heads y wky bky bt)) ≠ 0
  yx : ∀ bt n, denominator total (heads y wqy bqy bt n) (keySum tiny (heads x wk bk bt)) ≠ 0

/-- A value the comparison with infinity finds smaller is finite. -/
theorem real_of_less {a : EReal} (h : FloatOps.cmpf (F := Ideal) (φ := .f32) .olt (FloatOps.hostAbsf (F := Ideal) (φ := .f32) a) (FloatOps.ofBits (F := Ideal) .f32 0x7F800000#32) = 1#1) : IsReal a := by
  have htop : Ideal.ofBits .f32 0x7F800000#32 = ⊤ := by simp [Ideal.ofBits, Ideal.ieee]
  change Ideal.cmp .olt (max a (-a)) (Ideal.ofBits .f32 0x7F800000#32) = 1#1 at h
  rw [htop] at h
  refine real_of_ne ?_ ?_ <;> rintro rfl <;> simp [Ideal.cmp] at h

/-- A value the comparison with zero finds different is not zero. -/
theorem ne_of_different {a : EReal} (h : FloatOps.cmpf (F := Ideal) (φ := .f32) .une a (FloatOps.ofBits (F := Ideal) .f32 0x00000000#32) = 1#1) : a ≠ 0 := by
  have hz : Ideal.ofBits .f32 0x00000000#32 = 0 := by simp [Ideal.ofBits, Ideal.ieee]
  change Ideal.cmp .une a (Ideal.ofBits .f32 0x00000000#32) = 1#1 at h
  rw [hz] at h
  rintro rfl
  simp [Ideal.cmp] at h

/-- The comparisons the precondition makes. -/
def below {S : Shape} (a : S.Idx → EReal) : S.Idx → BitVec 1 :=
  fun i => FloatOps.cmpf (F := Ideal) (φ := .f32) .olt (FloatOps.hostAbsf (F := Ideal) (φ := .f32) (a i)) (FloatOps.ofBits (F := Ideal) .f32 0x7F800000#32)
def nonzero {S : Shape} (a : S.Idx → EReal) : S.Idx → BitVec 1 :=
  fun i => FloatOps.cmpf (F := Ideal) (φ := .f32) .une (a i) (FloatOps.ofBits (F := Ideal) .f32 0x00000000#32)

theorem fn_eq : Cert.Pre_well_defined.fn (F := Ideal) x y wq bq wk bk wv bv wqy bqy wky bky wvy bvy g g' g2 g3 p p' p2 p3
    = (below x, below y, below wv, below bv, below wvy, below bvy,
       nonzero (val_main_v7 (F := Ideal) x wq bq), nonzero (val_main_v7 (F := Ideal) x wk bk),
       nonzero (val_main_v7 (F := Ideal) y wqy bqy), nonzero (val_main_v7 (F := Ideal) y wky bky),
       nonzero (val_main_v58 (F := Ideal) x wq bq wk bk), nonzero (val_main_v88 (F := Ideal) x y wq bq wky bky),
       nonzero (val_main_v73 (F := Ideal) y wqy bqy wky bky), nonzero (val_main_v103 (F := Ideal) x y wk bk wqy bqy)) := rfl

theorem real_of_below {S : Shape} {a : S.Idx → EReal} (h : below a = fun _ => 1#1) (i : S.Idx) : IsReal (a i) := real_of_less (congrFun h i)
theorem ne_of_nonzero {S : Shape} {a : S.Idx → EReal} (h : nonzero a = fun _ => 1#1) (i : S.Idx) : a i ≠ 0 := ne_of_different (congrFun h i)

theorem wellDefined_of
    (h1 : below x = fun _ => 1#1) (h2 : below y = fun _ => 1#1) (h3 : below wv = fun _ => 1#1) (h4 : below bv = fun _ => 1#1)
    (h5 : below wvy = fun _ => 1#1) (h6 : below bvy = fun _ => 1#1)
    (h7 : nonzero (val_main_v7 (F := Ideal) x wq bq) = fun _ => 1#1) (h8 : nonzero (val_main_v7 (F := Ideal) x wk bk) = fun _ => 1#1)
    (h9 : nonzero (val_main_v7 (F := Ideal) y wqy bqy) = fun _ => 1#1) (h10 : nonzero (val_main_v7 (F := Ideal) y wky bky) = fun _ => 1#1)
    (h11 : nonzero (val_main_v58 (F := Ideal) x wq bq wk bk) = fun _ => 1#1) (h12 : nonzero (val_main_v88 (F := Ideal) x y wq bq wky bky) = fun _ => 1#1)
    (h13 : nonzero (val_main_v73 (F := Ideal) y wqy bqy wky bky) = fun _ => 1#1) (h14 : nonzero (val_main_v103 (F := Ideal) x y wk bk wqy bqy) = fun _ => 1#1) :
    WellDefined x y wq wk wqy wky bq bk bqy bky wv wvy bv bvy where
  x_real bt n c := real_of_below h1 _
  y_real bt n c := real_of_below h2 _
  wv_real e c := real_of_below h3 _
  bv_real e := real_of_below h4 _
  wvy_real e c := real_of_below h5 _
  bvy_real e := real_of_below h6 _
  q_norm bt n := by rw [← norm]; exact ne_of_nonzero h7 _
  k_norm bt n := by rw [← norm]; exact ne_of_nonzero h8 _
  qy_norm bt n := by rw [← norm]; exact ne_of_nonzero h9 _
  ky_norm bt n := by rw [← norm]; exact ne_of_nonzero h10 _
  xx bt n := by rw [← denominator_xx]; exact ne_of_nonzero h11 _
  xy bt n := by rw [← denominator_xy]; exact ne_of_nonzero h12 _
  yy bt n := by rw [← denominator_yy]; exact ne_of_nonzero h13 _
  yx bt n := by rw [← denominator_yx]; exact ne_of_nonzero h14 _

end Cert.ReferenceIdeal.Hand
-- ==== Proof.Equation.lean ====
/- The equation: under the precondition, what the kernel leaves in its two result arrays is what the reference computes. -/
module

public import proofs.«01_k».proof.Proof.Arrays
public import proofs.«01_k».proof.Proof.Weights
public import proofs.«01_k».proof.Proof.Totals
public import proofs.«01_k».proof.Proof.Precondition

@[expose] public section

set_option maxRecDepth 16384
set_option maxHeartbeats 1000000

noncomputable section

namespace Cert.KernelIdeal.Hand

open Cert.KernelIdeal Cert.KernelIdeal.Gen Cert.Attention
open Cert.ReferenceIdeal.Hand (rowsOf mtx mtxV vec vecV tiny total heads sumOf against WellDefined)
open Idealize.ShloMosaic Idealize.ShloMosaic.TcCoe
open Idealize.SL Idealize.SL.RA
open Idealize.ShloMosaic.Pipeline (Dat Cfg Window)

variable (m : (l : Loc nD τ sig) → Buf (Elt Ideal) l) (c : Dev nD)

/-! ## The kernel's operands by coordinates -/

theorem cutX (bt : Fin 8) : Cut (blkX m c bt.val) (rowsOf (arg m c main_arg0) bt) := fun j r ch => by
  rw [blkX_apply, V_main_arg0]; rfl
theorem cutY (bt : Fin 8) : Cut (blkY m c bt.val) (rowsOf (arg m c main_arg1) bt) := fun j r ch => by
  rw [blkY_apply, V_main_arg1]; rfl

theorem ent_wq : ent (wts m c).wq = mtx (arg m c main_arg2) := funext fun e => funext fun ch => wq_apply m c e ch
theorem ent_wk : ent (wts m c).wk = mtx (arg m c main_arg4) := funext fun e => funext fun ch => wk_apply m c e ch
theorem ent_wqy : ent (wts m c).wqy = mtx (arg m c main_arg8) := funext fun e => funext fun ch => wqy_apply m c e ch
theorem ent_wky : ent (wts m c).wky = mtx (arg m c main_arg10) := funext fun e => funext fun ch => wky_apply m c e ch
theorem row_bq : row (wts m c).bq = vec (arg m c main_arg3) := funext fun e => bq_apply m c e
theorem row_bk : row (wts m c).bk = vec (arg m c main_arg5) := funext fun e => bk_apply m c e
theorem row_bqy : row (wts m c).bqy = vec (arg m c main_arg9) := funext fun e => bqy_apply m c e
theorem row_bky : row (wts m c).bky = vec (arg m c main_arg11) := funext fun e => bky_apply m c e
theorem ent_wv : entV (wts m c).wv = mtxV (arg m c main_arg6) := by rw [wts_wv, V_main_arg6]; rfl
theorem ent_wvy : entV (wts m c).wvy = mtxV (arg m c main_arg12) := by rw [wts_wvy, V_main_arg12]; rfl
theorem row_bv : rowV (wts m c).bv = vecV (arg m c main_arg7) := funext fun e => bv_apply m c e
theorem row_bvy : rowV (wts m c).bvy = vecV (arg m c main_arg13) := funext fun e => bvy_apply m c e

/-- The precondition of the arguments. -/
abbrev Good : Prop := WellDefined (arg m c main_arg0) (arg m c main_arg1) (arg m c main_arg2) (arg m c main_arg4) (arg m c main_arg8) (arg m c main_arg10)
  (arg m c main_arg3) (arg m c main_arg5) (arg m c main_arg9) (arg m c main_arg11) (arg m c main_arg6) (arg m c main_arg12) (arg m c main_arg7) (arg m c main_arg13)

variable {m c} (h : Good m c)
include h

/-! ## The kernel's sums in the reference's form -/

theorem q_eq (bt : Fin 8) : byRsqrtOf (rowsOf (arg m c main_arg0) bt) (ent (wts m c).wq) (row (wts m c).bq) = heads (arg m c main_arg0) (arg m c main_arg2) (arg m c main_arg3) bt := by
  rw [ent_wq, row_bq]; exact byRsqrtOf_eq _ _ _ (h.q_norm bt)
theorem qy_eq (bt : Fin 8) : byRsqrtOf (rowsOf (arg m c main_arg1) bt) (ent (wts m c).wqy) (row (wts m c).bqy) = heads (arg m c main_arg1) (arg m c main_arg8) (arg m c main_arg9) bt := by
  rw [ent_wqy, row_bqy]; exact byRsqrtOf_eq _ _ _ (h.qy_norm bt)
theorem k_eq (bt : Fin 8) : kX (wts m c) (rowsOf (arg m c main_arg0) bt) = heads (arg m c main_arg0) (arg m c main_arg4) (arg m c main_arg5) bt := by
  unfold kX; rw [ent_wk, row_bk]; exact byRsqrtOf_eq _ _ _ (h.k_norm bt)
theorem ky_eq (bt : Fin 8) : kY (wts m c) (rowsOf (arg m c main_arg1) bt) = heads (arg m c main_arg1) (arg m c main_arg10) (arg m c main_arg11) bt := by
  unfold kY; rw [ent_wky, row_bky]; exact byRsqrtOf_eq _ _ _ (h.ky_norm bt)
theorem v_eq (bt : Fin 8) (ch : Fin 256) : val (rows (F := Ideal)) (rowsOf (arg m c main_arg0) bt) (entV (wts m c).wv) (rowV (wts m c).bv) ch
    = sumOf (arg m c main_arg0) (arg m c main_arg6) (arg m c main_arg7) bt ch := by
  rw [ent_wv, row_bv, val_eq_valOf _ rows_eq _ _ _ (h.x_real bt) h.wv_real h.bv_real]
theorem vy_eq (bt : Fin 8) (ch : Fin 256) : val (rows (F := Ideal)) (rowsOf (arg m c main_arg1) bt) (entV (wts m c).wvy) (rowV (wts m c).bvy) ch
    = sumOf (arg m c main_arg1) (arg m c main_arg12) (arg m c main_arg13) bt ch := by
  rw [ent_wvy, row_bvy, val_eq_valOf _ rows_eq _ _ _ (h.y_real bt) h.wvy_real h.bvy_real]
theorem m_eq (bt : Fin 8) (ch : Fin 256) :
    mat (heads (arg m c main_arg0) (arg m c main_arg4) (arg m c main_arg5) bt) (rowsOf (arg m c main_arg0) bt) (entV (wts m c).wv) (rowV (wts m c).bv) ch
    = against (arg m c main_arg0) (arg m c main_arg4) (arg m c main_arg5) (arg m c main_arg6) (arg m c main_arg7) bt ch := by
  rw [ent_wv, row_bv, mat_eq_matOf _ _ _ _ (byNormOf_real _ _ _ (h.k_norm bt)) (h.x_real bt) h.wv_real h.bv_real]
theorem my_eq (bt : Fin 8) (ch : Fin 256) :
    mat (heads (arg m c main_arg1) (arg m c main_arg10) (arg m c main_arg11) bt) (rowsOf (arg m c main_arg1) bt) (entV (wts m c).wvy) (rowV (wts m c).bvy) ch
    = against (arg m c main_arg1) (arg m c main_arg10) (arg m c main_arg11) (arg m c main_arg12) (arg m c main_arg13) bt ch := by
  rw [ent_wvy, row_bvy, mat_eq_matOf _ _ _ _ (byNormOf_real _ _ _ (h.ky_norm bt)) (h.y_real bt) h.wvy_real h.bvy_real]

omit h in
/-- A row's number from its block and its place in it. -/
theorem rowOf_divMod (n : Fin 16384) : rowOf ⟨n.val / 2048, by omega⟩ ⟨n.val % 2048, Nat.mod_lt _ (by omega)⟩ = n :=
  Fin.ext (by show n.val / 2048 * 2048 + n.val % 2048 = n.val; omega)

theorem equation_x (bt : Fin 8) (n : Fin 16384) (ch : Fin 256) :
    resX (wts m c) (blkX m c bt.val) (blkY m c bt.val) (n.val / 2048) (ix3 0 ⟨n.val % 2048, Nat.mod_lt _ (by omega)⟩ ch)
    = Cert.ReferenceIdeal.Read.val_main_v121 (F := Ideal) (arg m c main_arg0) (arg m c main_arg1) (arg m c main_arg2) (arg m c main_arg3) (arg m c main_arg4)
        (arg m c main_arg5) (arg m c main_arg6) (arg m c main_arg7) (arg m c main_arg10) (arg m c main_arg11) (arg m c main_arg12) (arg m c main_arg13)
        (arg m c main_arg14) (arg m c main_arg16) (arg m c main_arg18) (arg m c main_arg19) (ix3 bt n ch) := by
  refine (resX_eq (W := wts m c) (cutX m c bt) (cutY m c bt) ⟨n.val / 2048, by omega⟩ ⟨n.val % 2048, Nat.mod_lt _ (by omega)⟩ ch).trans ?_
  refine Eq.trans ?_ (Cert.ReferenceIdeal.Hand.result_x _ _ _ _ _ _ _ _ _ _ _ _ _ _ _ _ bt n ch).symm
  rw [rowOf_divMod, q_eq h, k_eq h, ky_eq h, v_eq h, m_eq h, my_eq h, w_0_apply, w_1_apply]
  exact congrArg₂ (· + ·) (branch_eq _ _ _ _ _ _ _ (h.xx bt n)) (branch_eq _ _ _ _ _ _ _ (h.xy bt n))

theorem equation_y (bt : Fin 8) (n : Fin 16384) (ch : Fin 256) :
    resY (wts m c) (blkX m c bt.val) (blkY m c bt.val) (n.val / 2048) (ix3 0 ⟨n.val % 2048, Nat.mod_lt _ (by omega)⟩ ch)
    = Cert.ReferenceIdeal.Read.val_main_v127 (F := Ideal) (arg m c main_arg0) (arg m c main_arg1) (arg m c main_arg4) (arg m c main_arg5) (arg m c main_arg6)
        (arg m c main_arg7) (arg m c main_arg8) (arg m c main_arg9) (arg m c main_arg10) (arg m c main_arg11) (arg m c main_arg12) (arg m c main_arg13)
        (arg m c main_arg15) (arg m c main_arg17) (arg m c main_arg20) (arg m c main_arg21) (ix3 bt n ch) := by
  refine (resY_eq (W := wts m c) (cutX m c bt) (cutY m c bt) ⟨n.val / 2048, by omega⟩ ⟨n.val % 2048, Nat.mod_lt _ (by omega)⟩ ch).trans ?_
  refine Eq.trans ?_ (Cert.ReferenceIdeal.Hand.result_y _ _ _ _ _ _ _ _ _ _ _ _ _ _ _ _ bt n ch).symm
  rw [rowOf_divMod, qy_eq h, k_eq h, ky_eq h, vy_eq h, m_eq h, my_eq h, w_2_apply, w_3_apply]
  exact congrArg₂ (· + ·) (branch_eq _ _ _ _ _ _ _ (h.yy bt n)) (branch_eq _ _ _ _ _ _ _ (h.yx bt n))

theorem array_x : (dats m 0 c).arrAt 11 cfg0.N
    = Cert.ReferenceIdeal.Read.val_main_v121 (F := Ideal) (arg m c main_arg0) (arg m c main_arg1) (arg m c main_arg2) (arg m c main_arg3) (arg m c main_arg4)
        (arg m c main_arg5) (arg m c main_arg6) (arg m c main_arg7) (arg m c main_arg10) (arg m c main_arg11) (arg m c main_arg12) (arg m c main_arg13)
        (arg m c main_arg14) (arg m c main_arg16) (arg m c main_arg18) (arg m c main_arg19) := by
  rw [final_x]
  funext i
  have e : i = ix3 (i 0) (i 1) (i 2) := eq_ix3 i
  rw [e]
  exact equation_x h (i 0) (i 1) (i 2)

theorem array_y : (dats m 0 c).arrAt 12 cfg0.N
    = Cert.ReferenceIdeal.Read.val_main_v127 (F := Ideal) (arg m c main_arg0) (arg m c main_arg1) (arg m c main_arg4) (arg m c main_arg5) (arg m c main_arg6)
        (arg m c main_arg7) (arg m c main_arg8) (arg m c main_arg9) (arg m c main_arg10) (arg m c main_arg11) (arg m c main_arg12) (arg m c main_arg13)
        (arg m c main_arg15) (arg m c main_arg17) (arg m c main_arg20) (arg m c main_arg21) := by
  rw [final_y]
  funext i
  have e : i = ix3 (i 0) (i 1) (i 2) := eq_ix3 i
  rw [e]
  exact equation_y h (i 0) (i 1) (i 2)

end Cert.KernelIdeal.Hand
-- ==== Proof.Same.lean ====
module

public import proofs.«01_k».proof.Kernel
public import proofs.«01_k».proof.KernelIdeal
public import proofs.«01_k».proof.Proof.Gen.Kernel
public import proofs.«01_k».proof.Proof.Gen.KernelIdeal

@[expose] public section
noncomputable section
namespace Cert.Same
open Idealize.ShloMosaic Idealize.SL.Sem

/-! The kernel and its ideal print are the same text: each part of the body, the body, and the host's program are equal over any float values. -/

variable {F : FTy → Type} [FloatOps F]

set_option maxRecDepth 16384
set_option maxHeartbeats 1000000
theorem part1 : Cert.Kernel.k0_part1 (F := F) = Cert.KernelIdeal.k0_part1 (F := F) := by
  unfold Cert.Kernel.k0_part1 Cert.KernelIdeal.k0_part1
  rfl
theorem part2 : Cert.Kernel.k0_part2 (F := F) = Cert.KernelIdeal.k0_part2 (F := F) := by
  unfold Cert.Kernel.k0_part2 Cert.KernelIdeal.k0_part2
  rfl
theorem part3 : Cert.Kernel.k0_part3 (F := F) = Cert.KernelIdeal.k0_part3 (F := F) := by
  unfold Cert.Kernel.k0_part3 Cert.KernelIdeal.k0_part3
  rfl
theorem part4 : Cert.Kernel.k0_part4 (F := F) = Cert.KernelIdeal.k0_part4 (F := F) := by
  unfold Cert.Kernel.k0_part4 Cert.KernelIdeal.k0_part4
  rfl
theorem part5 : Cert.Kernel.k0_part5 (F := F) = Cert.KernelIdeal.k0_part5 (F := F) := by
  unfold Cert.Kernel.k0_part5 Cert.KernelIdeal.k0_part5
  rfl
theorem part6 : Cert.Kernel.k0_part6 (F := F) = Cert.KernelIdeal.k0_part6 (F := F) := by
  unfold Cert.Kernel.k0_part6 Cert.KernelIdeal.k0_part6
  rfl

theorem body : Cert.Kernel.cc0_linattn_fused (F := F) = Cert.KernelIdeal.cc0_linattn_fused (F := F) := by
  unfold Cert.Kernel.cc0_linattn_fused Cert.KernelIdeal.cc0_linattn_fused
  rw [part1, part2, part3, part4, part5, part6]
  rfl
theorem main : Cert.Kernel.main (F := F) = Cert.KernelIdeal.main (F := F) := by
  unfold Cert.Kernel.main Cert.KernelIdeal.main
  rfl
end Cert.Same
-- ==== Proof.SameFrame.lean ====
module

public import proofs.«01_k».proof.Proof.Frames
public import proofs.«01_k».proof.Proof.Same
public import proofs.«01_k».proof.Defs

@[expose] public section

set_option maxRecDepth 16384
set_option maxHeartbeats 1000000

noncomputable section

namespace Cert.Same

open Idealize.ShloMosaic Idealize.SL.Sem

/-! The kernel's frame over machine floats, from the run of its ideal print. -/

variable {F : FTy → Type} [FloatOps F]

theorem defs₀ : Cert.Kernel.defs₀ (F := F) = Cert.KernelIdeal.defs₀ (F := F) := by
  unfold Cert.Kernel.defs₀ Cert.KernelIdeal.defs₀
  rw [body]
  refine congrArg Defs.onTc ?_
  funext l a
  match l, a with
  | 0, (t, s) => rfl

theorem defs : Cert.Kernel.defs (F := F) = Cert.KernelIdeal.defs (F := F) := by
  unfold Cert.Kernel.defs Cert.KernelIdeal.defs
  rw [defs₀]
  rfl

theorem frame_kernel : Cert.quiescent_Kernel := by
  intro m ρ _
  rw [defs, main]
  exact (θ_run Cert.KernelIdeal.defs _ _).mono (fun _ h => ⟨h.1, h.2⟩) (Cert.KernelIdeal.Hand.frame_run (F := Bits) m ρ)

end Cert.Same
-- ==== Proof.lean ====
/- Proof of `Cert.Claim`: the run of the kernel, read over machine floats and over ideal reals, gives both kernel frames; the
   reference's run gives its own; no operation is replaced, so `preserves` states nothing; under the precondition the two
   results' arrays after the kernel's run are the reference's (`algebraic`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Equation
public import proofs.«01_k».proof.Proof.Gen.Pre_well_defined
public import proofs.«01_k».proof.Proof.SameFrame
public import Idealize.ShloMosaic.Adequacy
public import Idealize.ShloMosaic.Init

@[expose] public section

noncomputable section

namespace Cert.Proof

open Idealize.ShloMosaic Idealize.SL.Sem

set_option maxHeartbeats 4000000 in
/-- The kernel's frame over ideal reals. -/
theorem frame_ideal : Cert.quiescent_KernelIdeal := fun m ρ _ =>
  (θ_run Cert.KernelIdeal.defs _ _).mono (fun _ h => h) (Cert.KernelIdeal.Hand.frame_run (F := Ideal) m ρ)

/-- The reference's frame over ideal reals; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The precondition of the arguments, as facts about entries. -/
theorem good_of (m : (l : Loc Cert.KernelIdeal.nD Cert.KernelIdeal.τ Cert.KernelIdeal.sig) → Buf (Elt Ideal) l)
    (h : Cert.Pre_KernelIdeal_well_defined m) (c : Dev Cert.KernelIdeal.nD) : Cert.KernelIdeal.Hand.Good m c := by
  obtain ⟨h1, h2, h3, h4, h5, h6, h7, h8, h9, h10, h11, h12, h13, h14⟩ := h c
  exact Cert.ReferenceIdeal.Hand.wellDefined_of _ _ _ _ _ _ _ _ _ _ _ _ _ _ h1 h2 h3 h4 h5 h6 h7 h8 h9 h10 h11 h12 h13 h14

set_option maxHeartbeats 4000000 in
/-- Under the precondition the kernel and the reference leave the same two results. -/
theorem results : Cert.algebraic_KernelIdeal_ReferenceIdeal_pre_well_defined := fun m g m' g' hp ha => by
  refine ⟨fun c => (Cert.KernelIdeal.Hand.dats m 0 c).arrAt 11 Cert.KernelIdeal.cfg0.N,
    fun c => (Cert.KernelIdeal.Hand.dats m 0 c).arrAt 12 Cert.KernelIdeal.cfg0.N, ?_, ?_⟩
  · exact (θ_run Cert.KernelIdeal.defs _ _).mono
      (fun r h c => ⟨(h.1 c).1 11, (h.1 c).1 12, Cert.KernelIdeal.Hand.kept_of m h c⟩) (Cert.KernelIdeal.Hand.launch (F := Ideal) m g)
  · refine (θ_run Cert.ReferenceIdeal.defs _ _).mono (fun r h c => ⟨(h c).1.trans ?_, (h c).2.1.trans ?_, (h c).2.2⟩)
      (Cert.ReferenceIdeal.Value.run (F := Ideal) m' g')
    · obtain ⟨a0, a1, a2, a3, a4, a5, a6, a7, a8, a9, a10, a11, a12, a13, a14, a15, a16, a17, a18, a19, a20, a21⟩ := ha c
      rw [Cert.ReferenceIdeal.Read.val_main_v121_eq, a0, a1, a2, a3, a4, a5, a6, a7, a10, a11, a12, a13, a14, a16, a18, a19]
      exact (Cert.KernelIdeal.Hand.array_x (good_of m hp c)).symm
    · obtain ⟨a0, a1, a2, a3, a4, a5, a6, a7, a8, a9, a10, a11, a12, a13, a14, a15, a16, a17, a18, a19, a20, a21⟩ := ha c
      rw [Cert.ReferenceIdeal.Read.val_main_v127_eq, a0, a1, a4, a5, a6, a7, a8, a9, a10, a11, a12, a13, a15, a17, a20, a21]
      exact (Cert.KernelIdeal.Hand.array_y (good_of m hp c)).symm

theorem claim : Cert.Claim := ⟨Cert.Kernel.Gen.facts, Cert.KernelIdeal.Gen.facts, Cert.ReferenceIdeal.Gen.facts, Cert.Pre_well_defined.Gen.facts,
  Cert.Same.frame_kernel, frame_ideal, fun m ρ _ => frame_ideal m ρ trivial, frame_reference, fun m ρ _ => frame_reference m ρ trivial, trivial, results⟩

end Cert.Proof

end
